-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DistinctIdeal (m : (ℓ : Loc Cert.DistinctIdeal.nD Cert.DistinctIdeal.τ Cert.DistinctIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_DistinctIdeal [hDistinctIdeal : Cert.DistinctIdeal.Facts] : Prop :=
  ∀ (m : (ℓ : Loc Cert.DistinctIdeal.nD Cert.DistinctIdeal.τ Cert.DistinctIdeal.sig) → Buf (Elt Ideal) ℓ) (g : Dev Cert.DistinctIdeal.nD → PrngReg), Pre_DistinctIdeal m →
    θ_run (Cert.DistinctIdeal.defs (F := Ideal)) (onTc (τ := Cert.DistinctIdeal.τ) (Cert.DistinctIdeal.main (F := Ideal))) ⟨m, fun _ => 0, g⟩ (fun r => (∀ c : Dev Cert.DistinctIdeal.nD,
      r.2.mem ((c.tc : Thread Cert.DistinctIdeal.nD Cert.DistinctIdeal.τ).loc Cert.DistinctIdeal.main_arg0) = m ((c.tc : Thread Cert.DistinctIdeal.nD Cert.DistinctIdeal.τ).loc Cert.DistinctIdeal.main_arg0))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 2, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_untied.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def algebraic_KernelIdeal_DistinctIdeal [hKernelIdeal : Cert.KernelIdeal.Facts] [hDistinctIdeal : Cert.DistinctIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DistinctIdeal.nD Cert.DistinctIdeal.τ Cert.DistinctIdeal.sig) → Buf (Elt Ideal) ℓ) (g' : Dev Cert.DistinctIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![256, 4096]⟩ (Layout.meshBlock [2, 2, 4] ![[], [2]] c) (m' (((0 : Dev Cert.DistinctIdeal.nD).tc : Thread Cert.DistinctIdeal.nD Cert.DistinctIdeal.τ).loc Cert.DistinctIdeal.main_arg0))) →
    ∃ (v0 : Buf (Elt Ideal) (((0 : Dev Cert.DistinctIdeal.nD).tc : Thread Cert.DistinctIdeal.nD Cert.DistinctIdeal.τ).loc Cert.DistinctIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.DistinctIdeal.defs (F := Ideal)) (onTc (τ := Cert.DistinctIdeal.τ) (Cert.DistinctIdeal.main (F := Ideal))) ⟨m', fun _ => 0, g'⟩ (fun r =>
          r.2.mem (((0 : Dev Cert.DistinctIdeal.nD).tc : Thread Cert.DistinctIdeal.nD Cert.DistinctIdeal.τ).loc Cert.DistinctIdeal.main_v13) = v0
          ∧ r.2.mem (((0 : Dev Cert.DistinctIdeal.nD).tc : Thread Cert.DistinctIdeal.nD Cert.DistinctIdeal.τ).loc Cert.DistinctIdeal.main_arg0) = m' (((0 : Dev Cert.DistinctIdeal.nD).tc : Thread Cert.DistinctIdeal.nD Cert.DistinctIdeal.τ).loc Cert.DistinctIdeal.main_arg0))

def Claim : Prop :=
  ∃ (hKernel : Cert.Kernel.Facts) (hKernelIdeal : Cert.KernelIdeal.Facts) (hReferenceIdeal : Cert.ReferenceIdeal.Facts) (hDistinctIdeal : Cert.DistinctIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ quiescent_DistinctIdeal (hDistinctIdeal := hDistinctIdeal)
    ∧ preserves_Kernel_KernelIdeal
    ∧ algebraic_KernelIdeal_ReferenceIdeal_on_untied (hKernelIdeal := hKernelIdeal) (hReferenceIdeal := hReferenceIdeal) (hOn_untied := hOn_untied)
    ∧ algebraic_KernelIdeal_DistinctIdeal (hKernelIdeal := hKernelIdeal) (hDistinctIdeal := hDistinctIdeal)
-- ==== On_untied.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256x1 : Shape := ⟨2, ![256, 1]⟩
abbrev S256x1x8 : Shape := ⟨3, ![256, 1, 8]⟩
abbrev S256x8x8 : Shape := ⟨3, ![256, 8, 8]⟩

class Facts : Prop where
  bitsLt_bf16_f32 : FTy.bits .bf16 < FTy.bits .f32
  slices_S256x4096_S256x8_0_0 : S256x4096.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S_S256x7 : S_.BroadcastsInDim S256x7 (![] : Fin 0 → Fin S256x7.rank)
  bcast_S_S256x1 : S_.BroadcastsInDim S256x1 (![] : Fin 0 → Fin S256x1.rank)
  concatenates_S256x1_S256x7_S256x8_d1 : Shape.Concatenates [S256x1, S256x7] S256x8 1
  bcast_S256x8_S256x1x8_0_2 : S256x8.BroadcastsInDim S256x1x8 (![0, 2] : Fin 2 → Fin S256x1x8.rank)
  bcast_S256x1x8_S256x8x8_0_1_2 : S256x1x8.BroadcastsInDim S256x8x8 (![0, 1, 2] : Fin 3 → Fin S256x8x8.rank)
  reducesTo_S256x8x8_S256x8_d2 : S256x8x8.ReducesTo [2] S256x8
  gather_S256x4096_S256x8x1_S256x8_n_1_0_0_1_2_11_wf : GatherDims.WF S256x4096 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x4096_S256x8x1_S256x8_n_1_0_0_1_2_11 : GatherDims S256x4096 S256x8x1 S256x8 where
  offsetDims := []
  collapsedSliceDims := [1]
  operandBatchingDims := [0]
  startIndicesBatchingDims := [0]
  startIndexMap := [1]
  indexVectorDim := 2
  sliceSizes := ![1, 1]
  wf := gather_S256x4096_S256x8x1_S256x8_n_1_0_0_1_2_11_wf

def fn_argsort {F : FTy → Type} [FloatOps F] (arg0 : FVec F S256x4096 .f32) : IVec S256x4096 32 :=
  let v0 : IVec S256x4096 32 := iotaInDim S256x4096 32 1
  let v1_0 : FVec F S256x4096 .f32 := (fun x y => (Host.sort2 S256x4096 1 comparator_f32_i32_d1 x y).1) arg0 v0
  let v1_1 : IVec S256x4096 32 := (fun x y => (Host.sort2 S256x4096 1 comparator_f32_i32_d1 x y).2) arg0 v0
  v1_1

def fn_take_along_axis {F : FTy → Type} [FloatOps F] (arg0 : FVec F S256x4096 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 4096#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 4095#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x4096_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn {F : FTy → Type} [FloatOps F] (main_arg0 : FVec F S256x4096 .bf16) : IVec S256x8 1 :=
  let main_v0 : FVec F S256x4096 .f32 := (extf .f32 · bitsLt_bf16_f32) main_arg0
  let main_v1 : FVec F S256x4096 .f32 := Host.negf main_v0
  let main_v2 : IVec S256x4096 32 := fn_argsort (F := F) main_v1
  let main_v3 : IVec S256x8 32 := (extractStridedSlice S256x8 ![0, 0] · slices_S256x4096_S256x8_0_0) main_v2
  let main_v4 : FVec F S256x8 .f32 := fn_take_along_axis (F := F) main_v0 main_v3
  let main_v5 : FVec F S256x7 .f32 := (extractStridedSlice S256x7 ![0, 1] · slices_S256x8_S256x7_0_1) main_v4
  let main_v6 : FVec F S256x7 .f32 := (extractStridedSlice S256x7 ![0, 0] · slices_S256x8_S256x7_0_0) main_v4
  let main_v7 : IVec S256x7 1 := cmpf .olt main_v5 main_v6
  let main_v8 : FVec F S256x7 .f32 := (extractStridedSlice S256x7 ![0, 1] · slices_S256x8_S256x7_0_1) main_v4
  let main_cst : FVec F S_ .f32 := constant S_ .f32 0xFF800000#32
  let main_v9 : FVec F S256x7 .f32 := broadcastInDim S256x7 ![] bcast_S_S256x7 main_cst
  let main_v10 : IVec S256x7 1 := cmpf .oeq main_v8 main_v9
  let main_v11 : IVec S256x7 1 := ori main_v7 main_v10
  let main_c : IVec S_ 1 := constantI S_ 1 1#1
  let main_v12 : IVec S256x1 1 := broadcastInDim S256x1 ![] bcast_S_S256x1 main_c
  let main_v13 : IVec S256x8 1 := (fun a b => concatenate S256x8 1 [⟨S256x1, a⟩, ⟨S256x7, b⟩] concatenates_S256x1_S256x7_S256x8_d1) main_v12 main_v11
  let main_v14 : IVec S256x1x8 1 := broadcastInDim S256x1x8 ![0, 2] bcast_S256x8_S256x1x8_0_2 main_v13
  let main_v15 : IVec S256x8x8 32 := iotaInDim S256x8x8 32 2
  let main_v16 : IVec S256x8x8 32 := iotaInDim S256x8x8 32 1
  let main_v17 : IVec S256x8x8 1 := cmpi .sgt main_v15 main_v16
  let main_v18 : IVec S256x8x8 1 := broadcastInDim S256x8x8 ![0, 1, 2] bcast_S256x1x8_S256x8x8_0_1_2 main_v14
  let main_v19 : IVec S256x8x8 1 := ori main_v18 main_v17
  let main_c_0 : IVec S_ 1 := constantI S_ 1 1#1
  let main_v20 : IVec S256x8 1 := (fun x v => Host.reduce IntOp.andi x v reducesTo_S256x8x8_S256x8_d2 h_S_) main_v19 main_c_0
  main_v20
-- ==== Kernel.lean ====
abbrev S256x1024 : Shape := ⟨2, ![256, 1024]⟩
abbrev S256x8 : Shape := ⟨2, ![256, 8]⟩
abbrev S4x256x8 : Shape := ⟨3, ![4, 256, 8]⟩
abbrev S3 : Shape := ⟨1, ![3]⟩
abbrev S4 : Shape := ⟨1, ![4]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x8, .f32⟩
  | .local _ .vmem, ⟨0, _⟩ => ⟨S256x1024, .bf16⟩
  | .local _ .vmem, ⟨1, _⟩ => ⟨S256x8, .f32⟩
  | .local _ .vmem, ⟨2, _⟩ => ⟨S4x256x8, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v165 : Index := Scalar.indexCast v8
  let c0_57 : Index := 0#32
  let c0_58 : Index := 0#32
  ![v165.toNat, 0, 0]
def k0_off2 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  ![v8.toNat]
def k0_off3 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_72 : BitVec 32 := 0#32
  let c0_i32_73 : BitVec 32 := 0#32
  ![v8.toNat, 0, 0]
def k0_dev4 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v180 : BitVec 32 := Scalar.muli v2 c8_i32_68
  let v181 : BitVec 32 := Scalar.addi c0_i32_69 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v182 : BitVec 32 := Scalar.muli v5 c4_i32_70
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v169 : BitVec 32 := Scalar.addi v8 c1_i32_60
  let c4_i32_61 : BitVec 32 := 4#32
  let c0_i32_62 : BitVec 32 := 0#32
  let v170 : BitVec 1 := Scalar.cmpi .eq c4_i32_61 c0_i32_62
  let c1_i32_63 : BitVec 32 := 1#32
  let v171 : BitVec 32 := Scalar.select v170 c1_i32_63 c4_i32_61
  let v172 : BitVec 32 := Scalar.remsi v169 v171
  let c0_i32_65 : BitVec 32 := 0#32
  let v174 : BitVec 1 := Scalar.cmpi .slt v172 c0_i32_65
  let c0_i32_66 : BitVec 32 := 0#32
  let v175 : BitVec 1 := Scalar.cmpi .slt v171 c0_i32_66
  let v176 : BitVec 1 := Scalar.xori v174 v175
  let c0_i32_64 : BitVec 32 := 0#32
  let v173 : BitVec 1 := Scalar.cmpi .ne v172 c0_i32_64
  let v177 : BitVec 1 := Scalar.andi v176 v173
  let v178 : BitVec 32 := Scalar.addi v172 v171
  let v179 : BitVec 32 := Scalar.select v177 v178 v172
  let c1_i32_71 : BitVec 32 := 1#32
  let v184 : BitVec 32 := Scalar.muli v179 c1_i32_71
  let v185 : BitVec 32 := Scalar.addi v183 v184
  v185.toNat
def k0_dev5 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v205 : BitVec 32 := Scalar.muli v2 c8_i32_84
  let v206 : BitVec 32 := Scalar.addi c0_i32_85 v205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_86 : BitVec 32 := 4#32
  let v207 : BitVec 32 := Scalar.muli v5 c4_i32_86
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_76 : BitVec 32 := 2#32
  let v194 : BitVec 32 := Scalar.addi v8 c2_i32_76
  let c4_i32_77 : BitVec 32 := 4#32
  let c0_i32_78 : BitVec 32 := 0#32
  let v195 : BitVec 1 := Scalar.cmpi .eq c4_i32_77 c0_i32_78
  let c1_i32_79 : BitVec 32 := 1#32
  let v196 : BitVec 32 := Scalar.select v195 c1_i32_79 c4_i32_77
  let v197 : BitVec 32 := Scalar.remsi v194 v196
  let c0_i32_81 : BitVec 32 := 0#32
  let v199 : BitVec 1 := Scalar.cmpi .slt v197 c0_i32_81
  let c0_i32_82 : BitVec 32 := 0#32
  let v200 : BitVec 1 := Scalar.cmpi .slt v196 c0_i32_82
  let v201 : BitVec 1 := Scalar.xori v199 v200
  let c0_i32_80 : BitVec 32 := 0#32
  let v198 : BitVec 1 := Scalar.cmpi .ne v197 c0_i32_80
  let v202 : BitVec 1 := Scalar.andi v201 v198
  let v203 : BitVec 32 := Scalar.addi v197 v196
  let v204 : BitVec 32 := Scalar.select v202 v203 v197
  let c1_i32_87 : BitVec 32 := 1#32
  let v209 : BitVec 32 := Scalar.muli v204 c1_i32_87
  let v210 : BitVec 32 := Scalar.addi v208 v209
  v210.toNat
def k0_dev6 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v230 : BitVec 32 := Scalar.muli v2 c8_i32_100
  let v231 : BitVec 32 := Scalar.addi c0_i32_101 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v232 : BitVec 32 := Scalar.muli v5 c4_i32_102
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_92 : BitVec 32 := 3#32
  let v219 : BitVec 32 := Scalar.addi v8 c3_i32_92
  let c4_i32_93 : BitVec 32 := 4#32
  let c0_i32_94 : BitVec 32 := 0#32
  let v220 : BitVec 1 := Scalar.cmpi .eq c4_i32_93 c0_i32_94
  let c1_i32_95 : BitVec 32 := 1#32
  let v221 : BitVec 32 := Scalar.select v220 c1_i32_95 c4_i32_93
  let v222 : BitVec 32 := Scalar.remsi v219 v221
  let c0_i32_97 : BitVec 32 := 0#32
  let v224 : BitVec 1 := Scalar.cmpi .slt v222 c0_i32_97
  let c0_i32_98 : BitVec 32 := 0#32
  let v225 : BitVec 1 := Scalar.cmpi .slt v221 c0_i32_98
  let v226 : BitVec 1 := Scalar.xori v224 v225
  let c0_i32_96 : BitVec 32 := 0#32
  let v223 : BitVec 1 := Scalar.cmpi .ne v222 c0_i32_96
  let v227 : BitVec 1 := Scalar.andi v226 v223
  let v228 : BitVec 32 := Scalar.addi v222 v221
  let v229 : BitVec 32 := Scalar.select v227 v228 v222
  let c1_i32_103 : BitVec 32 := 1#32
  let v234 : BitVec 32 := Scalar.muli v229 c1_i32_103
  let v235 : BitVec 32 := Scalar.addi v233 v234
  v235.toNat
def k0_off4 (d0 : Dev nD) (c1_i32_108 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v244 : BitVec 32 := Scalar.addi v8 c1_i32_108
  let c4_i32_109 : BitVec 32 := 4#32
  let c0_i32_110 : BitVec 32 := 0#32
  let v245 : BitVec 1 := Scalar.cmpi .eq c4_i32_109 c0_i32_110
  let c1_i32_111 : BitVec 32 := 1#32
  let v246 : BitVec 32 := Scalar.select v245 c1_i32_111 c4_i32_109
  let v247 : BitVec 32 := Scalar.remsi v244 v246
  let c0_i32_113 : BitVec 32 := 0#32
  let v249 : BitVec 1 := Scalar.cmpi .slt v247 c0_i32_113
  let c0_i32_114 : BitVec 32 := 0#32
  let v250 : BitVec 1 := Scalar.cmpi .slt v246 c0_i32_114
  let v251 : BitVec 1 := Scalar.xori v249 v250
  let c0_i32_112 : BitVec 32 := 0#32
  let v248 : BitVec 1 := Scalar.cmpi .ne v247 c0_i32_112
  let v252 : BitVec 1 := Scalar.andi v251 v248
  let v253 : BitVec 32 := Scalar.addi v247 v246
  let v254 : BitVec 32 := Scalar.select v252 v253 v247
  ![v254.toNat]
def k0_off5 (d0 : Dev nD) (c1_i32_108 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v244 : BitVec 32 := Scalar.addi v8 c1_i32_108
  let c4_i32_109 : BitVec 32 := 4#32
  let c0_i32_110 : BitVec 32 := 0#32
  let v245 : BitVec 1 := Scalar.cmpi .eq c4_i32_109 c0_i32_110
  let c1_i32_111 : BitVec 32 := 1#32
  let v246 : BitVec 32 := Scalar.select v245 c1_i32_111 c4_i32_109
  let v247 : BitVec 32 := Scalar.remsi v244 v246
  let c0_i32_113 : BitVec 32 := 0#32
  let v249 : BitVec 1 := Scalar.cmpi .slt v247 c0_i32_113
  let c0_i32_114 : BitVec 32 := 0#32
  let v250 : BitVec 1 := Scalar.cmpi .slt v246 c0_i32_114
  let v251 : BitVec 1 := Scalar.xori v249 v250
  let c0_i32_112 : BitVec 32 := 0#32
  let v248 : BitVec 1 := Scalar.cmpi .ne v247 c0_i32_112
  let v252 : BitVec 1 := Scalar.andi v251 v248
  let v253 : BitVec 32 := Scalar.addi v247 v246
  let v254 : BitVec 32 := Scalar.select v252 v253 v247
  let c0_i32_120 : BitVec 32 := 0#32
  let c0_i32_121 : BitVec 32 := 0#32
  ![v254.toNat, 0, 0]
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .i32⟩
  | .hbm, ⟨4, _⟩ => ⟨S256x4096, .f32⟩
  | .hbm, ⟨5, _⟩ => ⟨S256x4096, .i32⟩
  | .hbm, ⟨6, _⟩ => ⟨S256x8, .i32⟩
  | .hbm, ⟨7, _⟩ => ⟨S_, .i32⟩
  | .hbm, ⟨8, _⟩ => ⟨S256x8, .i32⟩
  | .hbm, ⟨9, _⟩ => ⟨S256x8, .i1⟩
  | .hbm, ⟨10, _⟩ => ⟨S_, .i32⟩
  | .hbm, ⟨11, _⟩ => ⟨S256x8, .i32⟩
  | .hbm, ⟨12, _⟩ => ⟨S256x8, .i32⟩
  | .hbm, ⟨13, _⟩ => ⟨S256x8, .i32⟩
  | .hbm, ⟨14, _⟩ => ⟨S256x8x1, .i32⟩
  | .hbm, ⟨15, _⟩ => ⟨S1, .i32⟩
  | .hbm, ⟨16, _⟩ => ⟨S_, .i32⟩
  | .hbm, ⟨17, _⟩ => ⟨S256x8x1, .i32⟩
  | .hbm, ⟨18, _⟩ => ⟨S256x8x1, .i1⟩
  | .hbm, ⟨19, _⟩ => ⟨S1x1x1, .i32⟩
  | .hbm, ⟨20, _⟩ => ⟨S256x8x1, .i32⟩
  | .hbm, ⟨21, _⟩ => ⟨S256x8x1, .i1⟩
  | .hbm, ⟨22, _⟩ => ⟨S256x8x1, .i1⟩
  | .hbm, ⟨23, _⟩ => ⟨S_, .i1⟩
  | .hbm, ⟨24, _⟩ => ⟨S256x8, .i1⟩
  | .hbm, ⟨25, _⟩ => ⟨S256x8, .f32⟩
  | .hbm, ⟨26, _⟩ => ⟨S_, .f32⟩
  | .hbm, ⟨27, _⟩ => ⟨S256x8, .f32⟩
  | .hbm, ⟨28, _⟩ => ⟨S256x8, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== DistinctIdeal.lean ====
abbrev S256x4096 : Shape := ⟨2, ![256, 4096]⟩
abbrev S_ : Shape := ⟨0, ![]⟩
abbrev S256x4096x1 : Shape := ⟨3, ![256, 4096, 1]⟩
abbrev S1 : Shape := ⟨1, ![1]⟩
abbrev S1x1x1 : Shape := ⟨3, ![1, 1, 1]⟩
abbrev S256x1 : Shape := ⟨2, ![256, 1]⟩
abbrev S256x4095 : Shape := ⟨2, ![256, 4095]⟩
abbrev S256x8 : Shape := ⟨2, ![256, 8]⟩
abbrev S256x8x1 : Shape := ⟨3, ![256, 8, 1]⟩

abbrev nBuf : Space → Nat
  | .hbm => 65
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S256x4096, .f32⟩
  | .hbm, ⟨2, _⟩ => ⟨S256x4096, .f32⟩
  | .hbm, ⟨3, _⟩ => ⟨S256x4096, .i32⟩
  | .hbm, ⟨4, _⟩ => ⟨S256x4096, .f32⟩
  | .hbm, ⟨5, _⟩ => ⟨S256x4096, .i32⟩
  | .hbm, ⟨6, _⟩ => ⟨S_, .i32⟩
  | .hbm, ⟨7, _⟩ => ⟨S256x4096, .i32⟩
  | .hbm, ⟨8, _⟩ => ⟨S256x4096, .i1⟩
  | .hbm, ⟨9, _⟩ => ⟨S_, .i32⟩
  | .hbm, ⟨10, _⟩ => ⟨S256x4096, .i32⟩
  | .hbm, ⟨11, _⟩ => ⟨S256x4096, .i32⟩
  | .hbm, ⟨12, _⟩ => ⟨S256x4096, .i32⟩
  | .hbm, ⟨13, _⟩ => ⟨S256x4096x1, .i32⟩
  | .hbm, ⟨14, _⟩ => ⟨S1, .i32⟩
  | .hbm, ⟨15, _⟩ => ⟨S_, .i32⟩
  | .hbm, ⟨16, _⟩ => ⟨S256x4096x1, .i32⟩
  | .hbm, ⟨17, _⟩ => ⟨S256x4096x1, .i1⟩
  | .hbm, ⟨18, _⟩ => ⟨S1x1x1, .i32⟩
  | .hbm, ⟨19, _⟩ => ⟨S256x4096x1, .i32⟩
  | .hbm, ⟨20, _⟩ => ⟨S256x4096x1, .i1⟩
  | .hbm, ⟨21, _⟩ => ⟨S256x4096x1, .i1⟩
  | .hbm, ⟨22, _⟩ => ⟨S_, .i1⟩
  | .hbm, ⟨23, _⟩ => ⟨S256x4096, .i1⟩
  | .hbm, ⟨24, _⟩ => ⟨S256x4096, .f32⟩
  | .hbm, ⟨25, _⟩ => ⟨S_, .f32⟩
  | .hbm, ⟨26, _⟩ => ⟨S256x4096, .f32⟩
  | .hbm, ⟨27, _⟩ => ⟨S256x4096, .f32⟩
  | .hbm, ⟨28, _⟩ => ⟨S_, .i1⟩
  | .hbm, ⟨29, _⟩ => ⟨S256x1, .i1⟩
  | .hbm, ⟨30, _⟩ => ⟨S256x4095, .f32⟩
  | .hbm, ⟨31, _⟩ => ⟨S256x4095, .f32⟩
  | .hbm, ⟨32, _⟩ => ⟨S256x4095, .i1⟩
  | .hbm, ⟨33, _⟩ => ⟨S256x4096, .i1⟩
  | .hbm, ⟨34, _⟩ => ⟨S_, .f32⟩
  | .hbm, ⟨35, _⟩ => ⟨S_, .f32⟩
  | .hbm, ⟨36, _⟩ => ⟨S256x4096, .f32⟩
  | .hbm, ⟨37, _⟩ => ⟨S256x4096, .f32⟩
  | .hbm, ⟨38, _⟩ => ⟨S256x4096, .f32⟩
  | .hbm, ⟨39, _⟩ => ⟨S256x4096, .i32⟩
  | .hbm, ⟨40, _⟩ => ⟨S256x4096, .f32⟩
  | .hbm, ⟨41, _⟩ => ⟨S256x4096, .i32⟩
  | .hbm, ⟨42, _⟩ => ⟨S256x8, .i32⟩
  | .hbm, ⟨43, _⟩ => ⟨S_, .i32⟩
  | .hbm, ⟨44, _⟩ => ⟨S256x8, .i32⟩
  | .hbm, ⟨45, _⟩ => ⟨S256x8, .i1⟩
  | .hbm, ⟨46, _⟩ => ⟨S_, .i32⟩
  | .hbm, ⟨47, _⟩ => ⟨S256x8, .i32⟩
  | .hbm, ⟨48, _⟩ => ⟨S256x8, .i32⟩
  | .hbm, ⟨49, _⟩ => ⟨S256x8, .i32⟩
  | .hbm, ⟨50, _⟩ => ⟨S256x8x1, .i32⟩
  | .hbm, ⟨51, _⟩ => ⟨S1, .i32⟩
  | .hbm, ⟨52, _⟩ => ⟨S_, .i32⟩
  | .hbm, ⟨53, _⟩ => ⟨S256x8x1, .i32⟩
  | .hbm, ⟨54, _⟩ => ⟨S256x8x1, .i1⟩
  | .hbm, ⟨55, _⟩ => ⟨S1x1x1, .i32⟩
  | .hbm, ⟨56, _⟩ => ⟨S256x8x1, .i32⟩
  | .hbm, ⟨57, _⟩ => ⟨S256x8x1, .i1⟩
  | .hbm, ⟨58, _⟩ => ⟨S256x8x1, .i1⟩
  | .hbm, ⟨59, _⟩ => ⟨S_, .i1⟩
  | .hbm, ⟨60, _⟩ => ⟨S256x8, .i1⟩
  | .hbm, ⟨61, _⟩ => ⟨S256x8, .f32⟩
  | .hbm, ⟨62, _⟩ => ⟨S_, .f32⟩
  | .hbm, ⟨63, _⟩ => ⟨S256x8, .f32⟩
  | .hbm, ⟨64, _⟩ => ⟨S256x8, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_v9 : Ref sig .tc := ⟨.hbm, 37, rfl⟩
abbrev main_v10 : Ref sig .tc := ⟨.hbm, 38, rfl⟩
abbrev main_call3_v0 : Ref sig .tc := ⟨.hbm, 39, rfl⟩
abbrev main_call3_v1_0 : Ref sig .tc := ⟨.hbm, 40, rfl⟩
abbrev main_v11 : Ref sig .tc := ⟨.hbm, 41, rfl⟩
abbrev main_v12 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_cst : Ref sig .tc := ⟨.hbm, 62, rfl⟩
abbrev main_call4_v14 : Ref sig .tc := ⟨.hbm, 63, rfl⟩
abbrev main_v13 : Ref sig .tc := ⟨.hbm, 64, rfl⟩

abbrev nD : Nat := 1
abbrev τ : Topo := Topo.v7x

variable {F : FTy → Type} [FloatOps F]
-- ==== Proof.Mesh.lean ====
/-
The mesh of sixteen devices as four groups of four: who a device's peers are, which slot of the gathering buffer each
device owns, the semaphores the exchange runs on, and what a slot of the buffer is as a set of elements.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Top

open Cert.KernelIdeal Cert.KernelIdeal.Gen
open Idealize.ShloMosaic
open Idealize.ShloMosaic.TcCoe

/-! ## Peers -/

set_option backward.proofsInPublic true in
/-- The device `k + 1` places after `c` in its group of four. -/
def nb (c : Dev nD) (k : Fin 3) : Dev nD :=
  ⟨c.val / 4 * 4 + (c.val % 4 + k.val + 1) % 4, by have := c.isLt; simp only [nD] at *; omega⟩
/-- The peer number under which `c` appears to its peer number `k`. -/
def opp (k : Fin 3) : Fin 3 := k.rev
set_option backward.proofsInPublic true in
/-- The member of `c`'s group that owns slot `s`. -/
def mate (c : Dev nD) (s : Fin 4) : Dev nD :=
  ⟨c.val / 4 * 4 + s.val, by have := c.isLt; have := s.isLt; simp only [nD] at *; omega⟩
set_option backward.proofsInPublic true in
/-- The slots in the order `c` meets them: its own first, then its peers'. -/
def rs (c : Dev nD) (i : Fin 4) : Fin 4 := ⟨(c.val % 4 + i.val) % 4, Nat.mod_lt _ (by decide)⟩
/-- The slot `c` owns. -/
abbrev zc (c : Dev nD) : Fin 4 := rs c 0

theorem opp_opp (k : Fin 3) : opp (opp k) = k := by revert k; decide
theorem nb_nb (c : Dev nD) (k : Fin 3) : nb (nb c k) (opp k) = c := by revert c k; decide +kernel
theorem nb_opp (c : Dev nD) (k : Fin 3) : nb (nb c (opp k)) k = c := by revert c k; decide +kernel
theorem nb_inj (c : Dev nD) (k k' : Fin 3) (h : nb c k = nb c k') : k = k' := by revert c k k'; decide +kernel
theorem nb_inj_left (c c' : Dev nD) (k : Fin 3) (h : nb c k = nb c' k) : c = c' := by
  rw [← nb_nb c k, h, nb_nb]
theorem mate_nb (c : Dev nD) (k : Fin 3) (s : Fin 4) : mate (nb c k) s = mate c s := by revert c k s; decide +kernel
theorem mate_zc (c : Dev nD) : mate c (zc c) = c := by revert c; decide +kernel
theorem mate_rs (c : Dev nD) (k : Fin 3) : mate c (rs c k.succ) = nb c k := by revert c k; decide +kernel
theorem rs_inj (c : Dev nD) (i j : Fin 4) (h : rs c i = rs c j) : i = j := by revert c i j; decide +kernel
theorem rs_succ (c : Dev nD) (k : Fin 3) : rs c k.succ = zc (nb c k) := by revert c k; decide +kernel
theorem rs_opp (c : Dev nD) (k : Fin 3) : rs (nb c k) (opp k).succ = zc c := by revert c k; decide +kernel

/-- The exchange of the two ends of a link: device `c` and peer number `k`. -/
def links : Dev nD × Fin 3 ≃ Dev nD × Fin 3 :=
  ⟨fun p => (nb p.1 p.2, opp p.2), fun p => (nb p.1 p.2, opp p.2),
    fun ⟨c, k⟩ => Prod.ext (nb_nb c k) (opp_opp k), fun ⟨c, k⟩ => Prod.ext (nb_nb c k) (opp_opp k)⟩

/-- The devices the kernel signals and sends to are its peers in order. -/
theorem dev1_eq (c : Dev nD) : (⟨k0_dev1 c, k0_dev1_lt c⟩ : Dev nD) = nb c 0 := by revert c; decide +kernel
theorem dev2_eq (c : Dev nD) : (⟨k0_dev2 c, k0_dev2_lt c⟩ : Dev nD) = nb c 1 := by revert c; decide +kernel
theorem dev3_eq (c : Dev nD) : (⟨k0_dev3 c, k0_dev3_lt c⟩ : Dev nD) = nb c 2 := by revert c; decide +kernel
theorem dev4_eq (c : Dev nD) : (⟨k0_dev4 c, k0_dev4_lt c⟩ : Dev nD) = nb c 0 := by revert c; decide +kernel
theorem dev5_eq (c : Dev nD) : (⟨k0_dev5 c, k0_dev5_lt c⟩ : Dev nD) = nb c 1 := by revert c; decide +kernel
theorem dev6_eq (c : Dev nD) : (⟨k0_dev6 c, k0_dev6_lt c⟩ : Dev nD) = nb c 2 := by revert c; decide +kernel

theorem off1_eq (c : Dev nD) : k0_off1 c = ![(zc c).val, 0, 0] := by revert c; decide +kernel
theorem off2_eq (c : Dev nD) : k0_off2 c = ![(zc c).val] := by revert c; decide +kernel
theorem off3_eq (c : Dev nD) : k0_off3 c = ![(zc c).val, 0, 0] := by revert c; decide +kernel
theorem off4_eq (c : Dev nD) (k : Fin 3) : k0_off4 c (BitVec.ofNat 32 (1 + k.val)) = ![(rs c k.succ).val] := by
  revert c k; decide +kernel
theorem off5_eq (c : Dev nD) (k : Fin 3) : k0_off5 c (BitVec.ofNat 32 (1 + k.val)) = ![(rs c k.succ).val, 0, 0] := by
  revert c k; decide +kernel

/-! ## Semaphores -/

/-- The barrier semaphore of the kernel's collective id. -/
abbrev barS : Sem sig := (SemArray.scalar (sig.barrier 0 rfl) : Sems sig S_).sem
/-- The semaphore counting the departure of transfer `k`. -/
abbrev sendS (k : Fin 3) : DmaSem sig := ⟨2 + k.val, by have := k.isLt; show 2 + k.val < 9; omega⟩
/-- The semaphore counting arrivals into slot `s`. -/
abbrev recvS (s : Fin 4) : DmaSem sig := ⟨5 + s.val, by have := s.isLt; show 5 + s.val < 9; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (s : Fin 4) : GSem nD τ sig := ((c : Thread nD τ), .dma (recvS s))

/-- The kernel's own semaphores: three departures, four arrivals. -/
abbrev osem : Fin 7 → SemLoc sig := fun k => .dma ⟨k.val + 2, by have := k.isLt; show k.val + 2 < 9; omega⟩
/-- All the semaphores of the exchange: the barrier, then the kernel's own. -/
abbrev csem : Fin 8 → SemLoc sig
  | ⟨0, _⟩ => .reg barS
  | ⟨k + 1, h⟩ => .dma ⟨k + 2, by show k + 2 < 9; omega⟩
abbrev kcell (ck : Dev nD × Fin 8) : GSem nD τ sig := ((ck.1 : Thread nD τ), csem ck.2)

/-- The three departure semaphores, as the kernel names them. -/
theorem sendS_0 : ((cc0_scratch1.slice (Rect.unit (s := S3) ![0] S1.size inb_S3_S1_0)).squeeze S_ squeezes_S1_S_).sem = sendS 0 := by decide
theorem sendS_1 : ((cc0_scratch1.slice (Rect.unit (s := S3) ![1] S1.size inb_S3_S1_1)).squeeze S_ squeezes_S1_S_).sem = sendS 1 := by decide
theorem sendS_2 : ((cc0_scratch1.slice (Rect.unit (s := S3) ![2] S1.size inb_S3_S1_2)).squeeze S_ squeezes_S1_S_).sem = sendS 2 := by decide
/-- The arrival semaphore at a computed offset. -/
theorem recvS_off (off : Fin 1 → Nat) (inb : ∀ a, off a + S1.size a ≤ S4.size a) (s : Fin 4) (h : off = ![s.val]) :
    ((cc0_scratch2.slice (Rect.unit (s := S4) off S1.size inb)).squeeze S_ squeezes_S1_S_).sem = recvS s := by
  subst h; revert s; decide

/-! ## Slots of the gathering buffer -/

/-- The elements of slot `s`. -/
def slotSet (s : Fin 4) : Finset S4x256x8.Idx := Finset.univ.filter fun i => (i 0).val = s.val

theorem mem_slotSet (s : Fin 4) (i : S4x256x8.Idx) : i ∈ slotSet s ↔ (i 0).val = s.val := by simp [slotSet]

theorem slotSet_disjoint (s s' : Fin 4) (h : s ≠ s') : Disjoint (slotSet s) (slotSet s') :=
  Finset.disjoint_left.mpr fun i hi hi' => h (Fin.ext (((mem_slotSet s i).mp hi).symm.trans ((mem_slotSet s' i).mp hi')))

theorem slotSet_biUnion : (Finset.univ : Finset (Fin 4)).biUnion slotSet = Finset.univ :=
  Finset.ext fun i => by
    simp only [Finset.mem_biUnion, Finset.mem_univ, true_and, iff_true]
    exact ⟨i 0, (mem_slotSet _ _).mpr rfl⟩

/-- The rectangle of the buffer at an offset, one slot big. -/
abbrev slotR (off : Fin 3 → Nat) (inb : ∀ a, off a + S1x256x8.size a ≤ S4x256x8.size a) : Rect S4x256x8 :=
  Rect.unit (s := S4x256x8) off S1x256x8.size inb
/-- One slot of the buffer as the transfers name it. -/
abbrev slotM (off : Fin 3 → Nat) (inb : ∀ a, off a + S1x256x8.size a ≤ S4x256x8.size a) : Memref sig .tc .vmem S256x8 .bf16 :=
  ((Memref.whole cc0_scratch0).slice (slotR off inb) (fun _ => rfl)).squeeze S256x8 squeezes_S1x256x8_S256x8

theorem slotR_set (off : Fin 3 → Nat) (inb : ∀ a, off a + S1x256x8.size a ≤ S4x256x8.size a) (s : Fin 4) (h : off = ![s.val, 0, 0]) :
    (slotR off inb).set = slotSet s := by
  subst h
  refine Finset.ext fun i => ?_
  rw [mem_slotSet, LoadRect.mem_set]
  constructor
  · intro H
    obtain ⟨j, hj, e⟩ := H 0
    simp [Rect.unit] at hj e
    omega
  · intro H a
    fin_cases a
    · exact ⟨0, Nat.one_pos, by simp [Rect.unit, H]⟩
    · exact ⟨(i 1).val, (i 1).isLt, by simp [Rect.unit]⟩
    · exact ⟨(i 2).val, (i 2).isLt, by simp [Rect.unit]⟩

theorem slotM_set (off : Fin 3 → Nat) (inb : ∀ a, off a + S1x256x8.size a ≤ S4x256x8.size a) (s : Fin 4) (h : off = ![s.val, 0, 0]) :
    (slotM off inb).view.set = slotSet s := by
  rw [← slotR_set off inb s h]
  show ((((View.whole cc0_scratch0).slice (slotR off inb)).reshape S256x8 _)).set = _
  rw [View.set_reshape, View.set_slice_whole]

/-- What one transfer counts: the credit of one slot. -/
abbrev N : ℕ := (slotM ![0, 0, 0] inb_S4x256x8_S1x256x8_0_0_0).view.dmaCredit
theorem N_pos : 0 < N := View.dmaCredit_pos _ (by decide)

end Cert.KernelIdeal.Top

end
-- ==== Proof.Schedule.lean ====
/-
What moves between the devices and when: the contents of the gathering buffer, the resources every signal and every
transfer carries, and the order of the waits.
-/
module

public import proofs.«01_k».proof.Proof.Mesh
public import Idealize.ShloMosaic.Lib.Ring.Trips

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost algebra: one copy for the staging pipeline, one for the exchange, whose duties are numbered by peer. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every semaphore at zero. -/
def s₀ : MemSt nD τ sig (Elt F) := ⟨m, fun _ => 0, ρ⟩

/-! ## Contents -/

/-- The block of the argument on device `c`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The column numbers of an eight-column block. -/
abbrev cols : IVec S256x8 32 := iota .tc S256x8 32 [1] iota_S256x8_d1_w32

/-- The eight candidates of each row of one block. -/
def loc8 (X : Vec F S256x1024 .bf16) : FVec F S256x8 .bf16 :=
  k0_pay15 cols (k0_pay12 (k0_pay2 X) cols (k0_pay3 (F := F)) (k0_pay4 X) k0_pay5) (k0_pay13 (k0_pay2 X) (k0_pay4 X))
    (k0_pay14 (k0_pay2 X) (k0_pay4 X))

/-- The eight results of each row of the four gathered blocks of candidates. -/
def top8 (a b c d : Vec F S1x256x8 .bf16) : FVec F S256x8 .f32 :=
  k0_pay1 cols
    (k0_pay32 cols (k0_pay22 (k0_pay17 a) b c d) (k0_pay24 (k0_pay17 a) b c d) (k0_pay25 (k0_pay17 a) b c d))
    (k0_pay33 (k0_pay22 (k0_pay17 a) b c d) (k0_pay25 (k0_pay17 a) b c d))
    (k0_pay34 (k0_pay22 (k0_pay17 a) b c d) (k0_pay25 (k0_pay17 a) b c d))
    (k0_pay35 cols)
    (k0_pay36 (k0_pay22 (k0_pay17 a) b c d) (k0_pay25 (k0_pay17 a) b c d))

/-- The candidates of device `c` in the shape of a slot. -/
def cand (c : Dev nD) : Vec F S1x256x8 .bf16 := k0_pay16 (loc8 (xstg m ρ c))

/-- An index of the buffer read within its slot. -/
def inSlot (i : S4x256x8.Idx) : S1x256x8.Idx := fun a => match a with
  | ⟨0, _⟩ => (⟨0, Nat.one_pos⟩ : Fin 1)
  | ⟨1, _⟩ => i 1
  | ⟨2, _⟩ => i 2

/-- The gathered buffer: slot `s` holds the candidates of the group's member `s`. -/
def gath (c : Dev nD) : Buf (Elt F) ((c : Thread nD τ).loc cc0_scratch0) :=
  fun i : S4x256x8.Idx => cand m ρ (mate c (i 0)) (inSlot i)

theorem gath_nb (c : Dev nD) (k : Fin 3) : (gath m ρ (nb c k) : S4x256x8.Idx → Elt F .bf16) = gath m ρ c := by
  exact @funext S4x256x8.Idx _ _ _ fun i => congrArg (fun d => cand m ρ d (inSlot i)) (mate_nb c k (i 0))

/-- The gathered buffer at an element of the rectangle of slot `s`. -/
theorem gath_emb (c : Dev nD) (off : Fin 3 → Nat) (inb : ∀ a, off a + S1x256x8.size a ≤ S4x256x8.size a) (s : Fin 4)
    (h : off = ![s.val, 0, 0]) (x : S1x256x8.Idx) :
    gath m ρ c ((slotR off inb).emb x) = cand m ρ (mate c s) x := by
  subst h
  have e0 : ((slotR ![s.val, 0, 0] inb).emb x) 0 = s := Fin.ext (by
    have h0 : (x 0).val < 1 := (x 0).isLt
    show s.val + 1 * (x 0).val = s.val
    omega)
  have e1 : inSlot ((slotR ![s.val, 0, 0] inb).emb x) = x := by
    funext a
    fin_cases a
    · refine Fin.ext ?_
      have h0 : (x 0).val < 1 := (x 0).isLt
      show 0 = (x 0).val
      omega
    · refine Fin.ext ?_
      show 0 + 1 * (x 1).val = (x 1).val
      omega
    · refine Fin.ext ?_
      show 0 + 1 * (x 2).val = (x 2).val
      omega
  show cand m ρ (mate c (((slotR ![s.val, 0, 0] inb).emb x) 0)) (inSlot ((slotR ![s.val, 0, 0] inb).emb x)) = _
  rw [e1]
  exact congrArg (fun t => cand m ρ (mate c t) x) e0

/-- Storing its candidates in its own slot makes that slot what the gathered buffer says. -/
theorem store_gath (c : Dev nD) (off : Fin 3 → Nat) (inb : ∀ a, off a + S1x256x8.size a ≤ S4x256x8.size a)
    (h : off = ![(zc c).val, 0, 0]) (f : Buf (Elt F) ((c : Thread nD τ).loc cc0_scratch0)) (i : S4x256x8.Idx) (hi : i ∈ slotSet (zc c)) :
    ((Memref.whole cc0_scratch0).access (slotR off inb) : View sig .tc _ _ _).write (Elt F) f (cand m ρ c) Finset.univ i = gath m ρ c i := by
  rw [← slotR_set off inb (zc c) h] at hi
  have hi' : i ∈ ((View.whole cc0_scratch0).slice (slotR off inb)).set := by rw [View.set_slice_whole]; exact hi
  obtain ⟨x, -, hx⟩ := Finset.mem_map.mp hi'
  rw [← hx]
  refine (View.write_emb_of_mem (v := (View.whole cc0_scratch0).slice (slotR off inb)) (Val := Elt F) f (cand m ρ c) (Finset.mem_univ x)).trans ?_
  refine Eq.trans ?_ (gath_emb m ρ c off inb (zc c) h x).symm
  rw [mate_zc]; rfl

/-- Loading slot `s` of the gathered buffer reads the candidates of the group's member `s`. -/
theorem load_gath (c : Dev nD) (off : Fin 3 → Nat) (inb : ∀ a, off a + S1x256x8.size a ≤ S4x256x8.size a) (s : Fin 4)
    (h : off = ![s.val, 0, 0]) :
    (Memref.whole cc0_scratch0 : Memref sig .tc .vmem S4x256x8 .bf16).view.readAt (Elt F) (slotR off inb).toLoadRect (gath m ρ c)
      = cand m ρ (mate c s) :=
  funext fun x => gath_emb m ρ c off inb s h x

/-! ## Resources -/

/-- Slot `s` of device `c`'s buffer at share `q` and contents `f`. -/
def slotPts (c : Dev nD) (s : Fin 4) (q : PosShare TreeShare) (f : Buf (Elt F) ((c : Thread nD τ).loc cc0_scratch0)) : sProp 𝕄 :=
  ((c : Thread nD τ).loc cc0_scratch0) ↦[slotSet s]{q} f

omit [FloatOps F] in
instance slotPts_storable (c : Dev nD) (s : Fin 4) (q) (f) : BI.Storable (upEmb : UEmb _ 𝕄) (slotPts (F := F) c s q f) := by
  unfold slotPts; infer_instance

omit [FloatOps F] in
theorem slotPts_congr (c : Dev nD) (s : Fin 4) (q) (f g : Buf (Elt F) ((c : Thread nD τ).loc cc0_scratch0))
    (h : ∀ i : S4x256x8.Idx, i ∈ slotSet s → f i = g i) : slotPts c s q f = slotPts c s q g := by
  unfold slotPts; exact pointsTo_congr h

omit [FloatOps F] in
/-- The whole buffer is its four slots, in the order `c` meets them. -/
theorem slots_split (c : Dev nD) (q) (f : Buf (Elt F) ((c : Thread nD τ).loc cc0_scratch0)) :
    (((c : Thread nD τ).loc cc0_scratch0) ↦{q} f : sProp 𝕄)
      = iprop(slotPts c (rs c 0) q f ∗ slotPts c (rs c 1) q f ∗ slotPts c (rs c 2) q f ∗ slotPts c (rs c 3) q f) := by
  have hu : (Finset.univ : Finset (Fin 4)).biUnion (fun i => slotSet (rs c i)) = Finset.univ := by
    refine Finset.ext fun i => ?_
    simp only [Finset.mem_biUnion, Finset.mem_univ, true_and, iff_true]
    have hs : ∀ (c : Dev nD) (s : Fin 4), ∃ j, rs c j = s := by decide +kernel
    obtain ⟨j, hj⟩ := hs c (i 0)
    exact ⟨j, (mem_slotSet _ _).mpr (by rw [hj])⟩
  have hb := pointsTo_biUnion (Ix := Unit) (Name := ℕ) (U := UU) (Lvl := ℕ) (ℓ := (c : Thread nD τ).loc cc0_scratch0) (q := q) (f := f) (Finset.univ : Finset (Fin 4))
    (fun i => slotSet (rs c i)) (fun t _ t' _ h => slotSet_disjoint _ _ fun e => h (rs_inj c _ _ e))
  refine (congrArg (fun S => (((c : Thread nD τ).loc cc0_scratch0) ↦[S]{q} f : sProp 𝕄)) hu.symm).trans (hb.trans ?_)
  exact bigSep_univ_eq_bigSepL [0, 1, 2, 3] (by decide) (by decide) _

/-- What the signal of `c`'s peer number `j` hands `c`: that peer's slot for `c`'s candidates. -/
def barPay (c : Dev nD) (j : Fin 3) : sProp 𝕄 :=
  iprop((∃ f, slotPts (nb c j) (zc c) fullShare f) ∗ reached ER (recvCell (nb c j) (zc c)) 0)
/-- What arrives in slot `s` of `c`: the slot, gathered. -/
def recvPay (c : Dev nD) (s : Fin 4) : sProp 𝕄 := slotPts c s fullShare (gath m ρ c)
/-- What transfer `k` lends: a part of `c`'s own slot. -/
def sendPay (c : Dev nD) (k : Fin 3) : sProp 𝕄 := slotPts c (zc c) (Ring.shares3 fullShare k) (gath m ρ c)

/-- The duties of a semaphore's one round. -/
def dut (g : GSem nD τ sig) : Finset (Fin 3) := match g.2 with
  | .reg s => if s = barS then Finset.univ else ∅
  | .dma q => if q.val < 2 then ∅ else if q.val < 5 then {0} else if q.val - 5 = g.1.1.val % 4 then ∅ else {0}

/-- The exchange as one round: three units on a barrier semaphore, one transfer's credit on each other. -/
def Rd : Rounds.Schedule (GSem nD τ sig) (Fin 3) 𝕄 where
  duties g r := if r = 0 ∧ g.1.2 = .tc then dut g else ∅
  unitless _ := False
  amount g _ _ := match g.2 with | .reg _ => 1 | .dma _ => N
  payload g _ d := match g.2 with
    | .reg _ => barPay g.1.1 d
    | .dma q => if q.val < 5 then sendPay m ρ g.1.1 ⟨(q.val - 2) % 3, Nat.mod_lt _ (by decide)⟩
        else recvPay m ρ g.1.1 ⟨(q.val - 5) % 4, Nat.mod_lt _ (by decide)⟩
  amount_pos g _ _ _ := by
    rcases g with ⟨t, s | q⟩
    · exact Nat.one_pos
    · exact N_pos

instance Rd_payload_storable (g : GSem nD τ sig) (r : ℕ) (d : Fin 3) :
    BI.Storable (upEmb : UEmb _ 𝕄) ((Rd (F := F) m ρ).payload g r d) := by
  rcases g with ⟨t, s | q⟩
  · show BI.Storable upEmb (barPay t.1 d)
    unfold barPay; infer_instance
  · show BI.Storable upEmb (if q.val < 5 then sendPay m ρ t.1 ⟨(q.val - 2) % 3, _⟩ else recvPay m ρ t.1 ⟨(q.val - 5) % 4, _⟩)
    unfold sendPay recvPay
    split <;> infer_instance

section Sched
variable (c : Dev nD) (k : Fin 3)

theorem duties_bar : (Rd (F := F) m ρ).duties (barCell c) 0 = Finset.univ := by
  show (if (0 : ℕ) = 0 ∧ (Proc.tc : Proc τ) = .tc then dut (barCell c) else ∅) = _
  rw [if_pos ⟨rfl, rfl⟩]
  show (if barS = barS then Finset.univ else ∅) = Finset.univ
  exact if_pos rfl
theorem duties_send : (Rd (F := F) m ρ).duties (sendCell c k) 0 = {0} := by
  show (if (0 : ℕ) = 0 ∧ (Proc.tc : Proc τ) = .tc then dut (sendCell c k) else ∅) = _
  rw [if_pos ⟨rfl, rfl⟩]
  have h := k.isLt
  show (if 2 + k.val < 2 then ∅ else if 2 + k.val < 5 then {0} else _) = _
  rw [if_neg (by omega), if_pos (by omega)]
theorem dut_recv (s : Fin 4) (h : s ≠ zc c) : dut (recvCell c s) = {0} := by
  have h' : ¬ s.val = c.val % 4 := fun e => h (Fin.ext (by show s.val = (c.val % 4 + 0) % 4; omega))
  show (if 5 + s.val < 2 then ∅ else if 5 + s.val < 5 then {0} else if 5 + s.val - 5 = c.val % 4 then ∅ else {0}) = _
  rw [if_neg (by omega), if_neg (by omega), if_neg (by omega)]
theorem peer_ne : rs c k.succ ≠ zc c := fun h => Fin.succ_ne_zero k (rs_inj c _ _ h)
theorem duties_recv : (Rd (F := F) m ρ).duties (recvCell c (rs c k.succ)) 0 = {0} := by
  show (if (0 : ℕ) = 0 ∧ (Proc.tc : Proc τ) = .tc then dut (recvCell c _) else ∅) = _
  rw [if_pos ⟨rfl, rfl⟩, dut_recv c _ (peer_ne c k)]
theorem duties_own (r : ℕ) : (Rd (F := F) m ρ).duties (recvCell c (zc c)) r = ∅ := by
  show (if r = 0 ∧ (Proc.tc : Proc τ) = .tc then dut (recvCell c _) else ∅) = _
  have : dut (recvCell c (zc c)) = ∅ := by
    have h' : (zc c).val = c.val % 4 := by show (c.val % 4 + 0) % 4 = _; omega
    show (if 5 + (zc c).val < 2 then ∅ else if 5 + (zc c).val < 5 then {0} else if 5 + (zc c).val - 5 = c.val % 4 then ∅ else {0}) = _
    rw [if_neg (by omega), if_neg (by omega), if_pos (by omega)]
  rw [this]; split <;> rfl
theorem duties_later (g : GSem nD τ sig) : ∀ r, 1 ≤ r → (Rd (F := F) m ρ).duties g r = ∅ :=
  fun r hr => if_neg fun h => by omega

theorem amount_bar (d : Fin 3) : (Rd (F := F) m ρ).amount (barCell c) 0 d = 1 := rfl
theorem amount_send (d : Fin 3) : (Rd (F := F) m ρ).amount (sendCell c k) 0 d = N := rfl
theorem amount_recv (s : Fin 4) (d : Fin 3) : (Rd (F := F) m ρ).amount (recvCell c s) 0 d = N := rfl

theorem expect_bar : (Rd (F := F) m ρ).expect (barCell c) 0 = 3 := by
  unfold Schedule.expect Schedule.amountOf
  rw [duties_bar, Finset.sum_congr rfl fun d _ => amount_bar m ρ c d]; rfl
theorem expect_send : (Rd (F := F) m ρ).expect (sendCell c k) 0 = N := by
  unfold Schedule.expect Schedule.amountOf; rw [duties_send, Finset.sum_singleton, amount_send]
theorem expect_recv : (Rd (F := F) m ρ).expect (recvCell c (rs c k.succ)) 0 = N := by
  unfold Schedule.expect Schedule.amountOf; rw [duties_recv, Finset.sum_singleton, amount_recv]

theorem payload_bar (d : Fin 3) : (Rd (F := F) m ρ).payload (barCell c) 0 d = barPay c d := rfl
theorem payload_send (d : Fin 3) : (Rd (F := F) m ρ).payload (sendCell c k) 0 d = sendPay m ρ c k := by
  show (if 2 + k.val < 5 then sendPay m ρ c ⟨(2 + k.val - 2) % 3, _⟩ else _) = _
  have h := k.isLt
  rw [if_pos (by omega)]
  exact congrArg (sendPay m ρ c) (Fin.ext (by show (2 + k.val - 2) % 3 = k.val; omega))
theorem payload_recv (s : Fin 4) (d : Fin 3) : (Rd (F := F) m ρ).payload (recvCell c s) 0 d = recvPay m ρ c s := by
  show (if 5 + s.val < 5 then _ else recvPay m ρ c ⟨(5 + s.val - 5) % 4, _⟩) = _
  have h := s.isLt
  rw [if_neg (by omega)]
  exact congrArg (recvPay m ρ c) (Fin.ext (by show (5 + s.val - 5) % 4 = s.val; omega))

/-- What the wait on the barrier collects: the three peers' slots. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide)]; rfl
theorem rest_send : bigSep ((Rd (F := F) m ρ).duties (sendCell c k) 0 \ ∅) (fun d => (Rd (F := F) m ρ).payload (sendCell c k) 0 d)
    = sendPay m ρ c k := by
  rw [Finset.sdiff_empty, duties_send, bigSep_singleton, payload_send]
theorem rest_recv : bigSep ((Rd (F := F) m ρ).duties (recvCell c (rs c k.succ)) 0 \ ∅)
      (fun d => (Rd (F := F) m ρ).payload (recvCell c (rs c k.succ)) 0 d) = recvPay m ρ c (rs c k.succ) := by
  rw [Finset.sdiff_empty, duties_recv, bigSep_singleton, payload_recv]

end Sched

/-! ## What a device owes, and the order of the waits -/

/-- The unit `c` owes the barrier of its peer number `k`. -/
abbrev Bt (c : Dev nD) (k : Fin 3) : CellTallies nD τ sig Unit := tallyAt (barCell (nb c k)) () 1
/-- The credit `c` owes its slot on peer number `k`. -/
abbrev Tt (c : Dev nD) (k : Fin 3) : CellTallies nD τ sig Unit := tallyAt (recvCell (nb c k) (zc c)) () N
/-- The three transfers. -/
def OT (c : Dev nD) : CellTallies nD τ sig Unit := Tt c 2 + Tt c 1 + Tt c 0
/-- All a device owes at launch. -/
def O₀ (c : Dev nD) : CellTallies nD τ sig Unit := OT c + Bt c 2 + Bt c 1 + Bt c 0

def L (g : GSem nD τ sig) : Finset Unit := if g.1.2 = .tc then {()} else ∅
/-- The barriers below the arrivals; the rest at the bottom. -/
def lv (g : GSem nD τ sig) (_ : Unit) : ℕ := match g.2 with
  | .reg _ => 1
  | .dma q => if q.val < 5 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (s : Fin 4) : lv (recvCell c s) () = 2 := by
  show (if 5 + s.val < 5 then 0 else 2) = 2
  rw [if_neg (by omega)]

theorem tally_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h; omega

theorem OT_pos {c : Dev nD} {g : GSem nD τ sig} {u : Unit} (h : 0 < OT c g u) : ∃ k, g = recvCell (nb c k) (zc c) := by
  unfold OT at h
  rcases add_pos h with h | h
  · rcases add_pos h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ k, g = recvCell (nb c k) (zc c)) ∨ ∃ k, g = barCell (nb c k) := by
  unfold O₀ at h
  rcases add_pos h with h | h
  · rcases add_pos h with h | h
    · rcases add_pos h with h | h
      · exact .inl (OT_pos h)
      · exact .inr ⟨2, tally_pos h⟩
    · exact .inr ⟨1, tally_pos h⟩
  · exact .inr ⟨0, tally_pos h⟩

/-- The staging waits lie below everything owed. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; exact Nat.le_of_eq (if_pos hq))
      (fun g u hg => by
        rcases O₀_pos hg with ⟨k, rfl⟩ | ⟨k, rfl⟩
        · rw [lv_recv]; decide
        · rw [lv_bar]; decide)
  · rw [MayWait_zero]; iintro -; iempintro

/-- At its barrier a device owes arrivals only. -/
theorem mayWait_bar (c : Dev nD) : (levAts L lv : sProp 𝕄) ⊢ MayWait (c : Thread nD τ) (.reg barS) () (OT c) :=
  MayOwe.of_cut (L := L) (lev := lv) 1 (fun p hp => by rw [Finset.mem_singleton.mp hp, L_tc]; exact Finset.mem_singleton_self _)
    (fun g u hg => by obtain ⟨k, rfl⟩ := OT_pos hg; exact Finset.mem_singleton_self _)
    (fun p hp => by rw [Finset.mem_singleton.mp hp]; exact Nat.le_of_eq (lv_bar c))
    (fun g u hg => by obtain ⟨k, rfl⟩ := OT_pos hg; rw [lv_recv]; decide)

end Cert.KernelIdeal.Top

end
-- ==== Proof.Steps.lean ====
/-
The kernel's steps on the mesh, one rule each: a signal to a peer, the wait on the barrier, a transfer to a peer, the
wait for an arrival and the wait for a departure.
-/
module

public import proofs.«01_k».proof.Proof.Schedule

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The place of each semaphore among a device's eight. -/
abbrev iBar : Fin 8 := 0
abbrev iSend (k : Fin 3) : Fin 8 := ⟨k.val + 1, by have := k.isLt; omega⟩
abbrev iRecv (s : Fin 4) : Fin 8 := ⟨s.val + 3 + 1, by have := s.isLt; omega⟩

theorem kcell_bar (c : Dev nD) : kcell (c, iBar) = barCell c := rfl
theorem kcell_send (c : Dev nD) (k : Fin 3) : kcell (c, iSend k) = sendCell c k :=
  congrArg (fun q : DmaSem sig => (((c : Thread nD τ), SemLoc.dma q) : GSem nD τ sig)) (Fin.ext (Nat.add_comm k.val 2))
theorem kcell_recv (c : Dev nD) (s : Fin 4) : kcell (c, iRecv s) = recvCell c s :=
  congrArg (fun q : DmaSem sig => (((c : Thread nD τ), SemLoc.dma q) : GSem nD τ sig)) (Fin.ext (by show s.val + 3 + 2 = 5 + s.val; omega))

/-- The shared knowledge: every cell's invariant under its name, and that every cell has reached its first round. -/
def records (K : Dev nD × Fin 8 → ℕ) : sProp 𝕄 :=
  iprop((bigSep Finset.univ fun ck : Dev nD × Fin 8 => cellInv ER (Rd m ρ) (K ck) (kcell ck))
    ∗ bigSep Finset.univ fun ck : Dev nD × Fin 8 => reached ER (kcell ck) 0)

instance records_persistent (K : Dev nD × Fin 8 → ℕ) : BI.Persistent (records m ρ K) := by unfold records; infer_instance

theorem inv_at (K : Dev nD × Fin 8 → ℕ) (ck : Dev nD × Fin 8) : records m ρ K ⊢ cellInv ER (Rd m ρ) (K ck) (kcell ck) := by
  unfold records
  iintro ⟨H, -⟩
  iapply (show (bigSep Finset.univ fun ck : Dev nD × Fin 8 => (cellInv ER (Rd m ρ) (K ck) (kcell ck) : sProp 𝕄)) ⊢ cellInv ER (Rd m ρ) (K ck) (kcell ck) from
    bigSep_elim (Finset.mem_univ ck))
  iexact H
theorem reached_at (K : Dev nD × Fin 8 → ℕ) (ck : Dev nD × Fin 8) : records m ρ K ⊢ reached ER (kcell ck) 0 := by
  unfold records
  iintro ⟨-, H⟩
  iapply (show (bigSep Finset.univ fun ck : Dev nD × Fin 8 => (reached ER (kcell ck) 0 : sProp 𝕄)) ⊢ reached ER (kcell ck) 0 from
    bigSep_elim (Finset.mem_univ ck))
  iexact H

theorem inv_bar (K : Dev nD × Fin 8 → ℕ) (c : Dev nD) : records m ρ K ⊢ cellInv ER (Rd m ρ) (K (c, iBar)) (barCell c) :=
  inv_at m ρ K (c, iBar)
theorem inv_send (K : Dev nD × Fin 8 → ℕ) (c : Dev nD) (k : Fin 3) : records m ρ K ⊢ cellInv ER (Rd m ρ) (K (c, iSend k)) (sendCell c k) := by
  rw [← kcell_send]; exact inv_at m ρ K (c, iSend k)
theorem inv_recv (K : Dev nD × Fin 8 → ℕ) (c : Dev nD) (s : Fin 4) : records m ρ K ⊢ cellInv ER (Rd m ρ) (K (c, iRecv s)) (recvCell c s) := by
  rw [← kcell_recv]; exact inv_at m ρ K (c, iRecv s)
theorem reached_bar (K : Dev nD × Fin 8 → ℕ) (c : Dev nD) : records m ρ K ⊢ reached ER (barCell c) 0 := reached_at m ρ K (c, iBar)
theorem reached_send (K : Dev nD × Fin 8 → ℕ) (c : Dev nD) (k : Fin 3) : records m ρ K ⊢ reached ER (sendCell c k) 0 := by
  rw [← kcell_send]; exact reached_at m ρ K (c, iSend k)
theorem reached_recv (K : Dev nD × Fin 8 → ℕ) (c : Dev nD) (s : Fin 4) : records m ρ K ⊢ reached ER (recvCell c s) 0 := by
  rw [← kcell_recv]; exact reached_at m ρ K (c, iRecv s)

section Steps

variable (K : Dev nD × Fin 8 → ℕ) (c : Dev nD)

/-- A signal to peer `k`: it hands over the slot of the buffer that peer will fill. -/
theorem wp_signal_peer {α : Type} {Q : α → sProp 𝕄} {kk : PUnit → Prog (TpuEff nD τ sig (Elt F) Λ₀ .tc) α}
    (n : Dev nD) (k : Fin 3) (hn : n = nb c k) (a : Int) (ha : a = ((1 : ℕ) : Int)) (O' O : CellTallies nD τ sig Unit)
    (hO : O' = O + Bt c k) (W : Waits sig Unit) (f : Buf (Elt F) ((c : Thread nD τ).loc cc0_scratch0)) :
    iprop(records m ρ K ∗ owes (c : Thread nD τ) O' W ∗ dutyTok ER (barCell (nb c k)) 0 (opp k) ∗ slotPts c (rs c k.succ) fullShare f)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n : Thread nD τ) barS a) kk) Q) := by
  subst hn; subst ha; subst hO
  iintro ⟨#HR, HO, Ht, Hs⟩
  iapply (Rounds.wp_signal 𝒱₀ ER (Rd m ρ) (c : Thread nD τ) none (dst := (nb c k : Thread nD τ)) (κ := K (nb c k, iBar)) (r := 0)
      (d := opp k) (by rw [duties_bar]; exact Finset.mem_univ _) (amount_bar m ρ (nb c k) (opp k)) () O rfl)
  isplitr; · iapply (inv_bar m ρ K (nb c k)); iexact HR
  isplitl [HO]; · iexact HO
  isplitl [Ht]; · iexact Ht
  isplitl [Hs]
  · rw [payload_bar]; unfold barPay; rw [nb_nb, ← rs_succ]
    isplitl [Hs]; · iexists f; iexact Hs
    iapply (reached_recv m ρ K c (rs c k.succ)); iexact HR
  iapply (reached_bar m ρ K (nb c k)); iexact HR

/-- The wait on the barrier: the three peers' slots for this device's candidates come with it. -/
theorem wp_wait_bar {α : Type} {Q : α → sProp 𝕄} {kk : PUnit → Prog (TpuEff nD τ sig (Elt F) Λ₀ .tc) α}
    (a : Int) (ha : a = ((3 : ℕ) : Int)) (W : Waits sig Unit) :
    iprop(records m ρ K ∗ levAts L lv ∗ cred (tallyAt (barCell c) () 3) ∗ owes (c : Thread nD τ) (OT c) W ∗ atPos ER (barCell c) 0 ∅ 0)
      ⊢ iprop(((owes (c : Thread nD τ) (OT c) (insert (SemLoc.reg barS, ()) W) ∗ atPos ER (barCell c) 1 ∅ 0
              ∗ (barPay c 0 ∗ barPay c 1 ∗ barPay c 2))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  iintro ⟨#HR, #Hlev, Hc, HO, Hat⟩ Hk
  iapply (Rounds.wp_wait_rest_token 𝒱₀ ER (Rd m ρ) (c : Thread nD τ) none (κ := K (c, iBar))
      (wpE_semWait_eq 𝒱₀ (c : Thread nD τ) none Set.univ) (Set.mem_univ _) () (O := OT c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  iapply Hk
  isplitl [HO]; · iexact HO
  isplitl [Hat]; · iexact Hat
  iexact Hp

/-- A slot, as the transfers' memref names it. -/
theorem slotPts_view (d : Dev nD) (s : Fin 4) (q : PosShare TreeShare) (f : Buf (Elt F) ((d : Thread nD τ).loc cc0_scratch0))
    (off : Fin 3 → Nat) (inb : ∀ a, off a + S1x256x8.size a ≤ S4x256x8.size a) (hoff : off = ![s.val, 0, 0]) :
    slotPts d s q f = ((slotM off inb).view.loc (d : Thread nD τ) ↦[(slotM off inb).view.set]{q} f : sProp 𝕄) := by
  unfold slotPts
  exact congrArg (fun S => (((d : Thread nD τ).loc cc0_scratch0) ↦[S]{q} f : sProp 𝕄)) (slotM_set off inb s hoff).symm

/-- What transfer `k` leaves in the peer's slot is what the gathered buffer says. -/
theorem landed (k : Fin 3) (off : Fin 3 → Nat) (inb : ∀ a, off a + S1x256x8.size a ≤ S4x256x8.size a) (hoff : off = ![(zc c).val, 0, 0])
    (fd : Buf (Elt F) ((nb c k : Thread nD τ).loc cc0_scratch0)) :
    ((slotM off inb).view.loc (nb c k : Thread nD τ) ↦[(slotM off inb).view.set]{fullShare}
        (slotM off inb).view.write (Elt F) fd ((slotM off inb).view.read (Elt F) (gath m ρ c)) Finset.univ : sProp 𝕄)
      = slotPts (nb c k) (zc c) fullShare (gath m ρ (nb c k)) := by
  rw [← slotPts_view (nb c k) (zc c) fullShare _ off inb hoff]
  refine slotPts_congr (F := F) (nb c k) (zc c) fullShare _ _ fun i hi => ?_
  have hi' : i ∈ (slotM off inb).view.setOn Finset.univ := by
    show i ∈ (slotM off inb).view.set
    rw [slotM_set off inb (zc c) hoff]; exact hi
  refine (congrFun (View.write_read_eq_piecewise (v := (slotM off inb).view) (Val := Elt F) fd (gath m ρ c) Finset.univ) i).trans ?_
  refine (Finset.piecewise_eq_of_mem _ _ _ hi').trans ?_
  exact (congrFun (gath_nb m ρ c k) i).symm

theorem credit_eq (off : Fin 3 → Nat) (inb : ∀ a, off a + S1x256x8.size a ≤ S4x256x8.size a) (q : DmaSem sig) :
    (slotM off inb).view.amount (.dma q) = N := rfl

theorem duties_peer (k : Fin 3) : (Rd (F := F) m ρ).duties (recvCell (nb c k) (zc c)) 0 = {0} := by
  have h := duties_recv (F := F) m ρ (nb c k) (opp k)
  rw [rs_opp] at h; exact h

theorem send_pay (k : Fin 3) (off : Fin 3 → Nat) (inb : ∀ a, off a + S1x256x8.size a ≤ S4x256x8.size a) (hoff : off = ![(zc c).val, 0, 0]) :
    ((slotM off inb).view.loc (c : Thread nD τ) ↦[(slotM off inb).view.set]{Ring.shares3 fullShare k} gath m ρ c)
      ⊢ (Rd m ρ).payload (sendCell c k) 0 0 := by
  rw [payload_send]; unfold sendPay
  exact Entails.of_eq (slotPts_view c (zc c) _ _ off inb hoff).symm

theorem recv_pay (k : Fin 3) (off : Fin 3 → Nat) (inb : ∀ a, off a + S1x256x8.size a ≤ S4x256x8.size a) (hoff : off = ![(zc c).val, 0, 0])
    (fd : Buf (Elt F) ((nb c k : Thread nD τ).loc cc0_scratch0)) :
    ((slotM off inb).view.loc (nb c k : Thread nD τ) ↦[(slotM off inb).view.set]{fullShare}
        (slotM off inb).view.write (Elt F) fd ((slotM off inb).view.read (Elt F) (gath m ρ c)) Finset.univ)
      ⊢ (Rd m ρ).payload (recvCell (nb c k) (zc c)) 0 0 := by
  rw [payload_recv]; unfold recvPay; exact Entails.of_eq (landed m ρ c k off inb hoff fd)

/-- Transfer `k`, its two ends as the memref names them. -/
theorem wp_send_view {α : Type} {Q : α → sProp 𝕄} {kk : PUnit → Prog (TpuEff nD τ sig (Elt F) Λ₀ .tc) α}
    (k : Fin 3)
    (off : Fin 3 → Nat) (inb : ∀ a, off a + S1x256x8.size a ≤ S4x256x8.size a) (hoff : off = ![(zc c).val, 0, 0])
    {hsc : (slotM off inb : Memref sig (Dev.tc (nb c k) : Thread nD τ).2.kind .vmem S256x8 .bf16).view.ref.isScScratch = false}
    {hsrc hdst : (slotM off inb).view.WordExact}
    {hsem : DmaTarget.Typed .vmem (.dma (recvS (zc c))) (.remote (Dev.tc (nb c k) : Thread nD τ) (slotM off inb) (.dma (sendS k)) hsc)}
    (O : CellTallies nD τ sig Unit) (W : Waits sig Unit) (fd : Buf (Elt F) ((slotM off inb).view.loc (nb c k : Thread nD τ))) :
    iprop(cellInv ER (Rd m ρ) (K (c, iSend k)) (sendCell c k) ∗ cellInv ER (Rd m ρ) (K (nb c k, iRecv (zc c))) (recvCell (nb c k) (zc c))
        ∗ ((slotM off inb).view.loc (c : Thread nD τ) ↦[(slotM off inb).view.set]{Ring.shares3 fullShare k} gath m ρ c)
        ∗ ((slotM off inb).view.loc (nb c k : Thread nD τ) ↦[(slotM off inb).view.set]{fullShare} fd)
        ∗ owes (c : Thread nD τ) (O + Tt c k) W
        ∗ dutyTok ER (sendCell c k) 0 0 ∗ reached ER (sendCell c k) 0
        ∗ dutyTok ER (recvCell (nb c k) (zc c)) 0 0 ∗ reached ER (recvCell (nb c k) (zc c)) 0)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM off inb) (.remote (Dev.tc (nb c k) : Thread nD τ) (slotM off inb) (.dma (sendS k)) hsc) (.dma (recvS (zc c))) hsrc hdst hsem) kk) Q) :=
  Rounds.wp_send_pointsTo 𝒱₀ ER (Rd m ρ) (c : Thread nD τ) none (c' := (nb c k : Thread nD τ)) (src := slotM off inb) (dst := slotM off inb)
    (hsc := hsc) (sS := .dma (sendS k)) (sem := .dma (recvS (zc c))) (hsrc := hsrc) (hdst := hdst) (hsem := hsem) (O₀ := O + Tt c k) (Q := Q) (k := kk) (Es := Set.univ) (κ₁ := K (c, iSend k)) (κ₂ := K (nb c k, iRecv (zc c)))
    (r₁ := 0) (r₂ := 0) (d₁ := 0) (d₂ := 0) (fd := fd) (fs := gath m ρ c) (q := Ring.shares3 fullShare k)
    (by rw [duties_send]; exact Finset.mem_singleton_self _)
    (by rw [duties_peer]; exact Finset.mem_singleton_self _)
    () () N (credit_eq off inb _) (amount_send m ρ c k 0) (amount_recv m ρ (nb c k) (zc c) 0) O rfl (W := W)
    (send_pay m ρ c k off inb hoff) (recv_pay m ρ c k off inb hoff fd)

/-- Transfer `k`: it lends a part of this device's slot and fills the slot of that name on the peer. -/
theorem wp_send_peer {α : Type} {Q : α → sProp 𝕄} {kk : PUnit → Prog (TpuEff nD τ sig (Elt F) Λ₀ .tc) α}
    (n : Dev nD) (k : Fin 3) (hn : n = nb c k) (sS sR : DmaSem sig) (hS : sS = sendS k) (hR : sR = recvS (zc c))
    (off : Fin 3 → Nat) (inb : ∀ a, off a + S1x256x8.size a ≤ S4x256x8.size a) (hoff : off = ![(zc c).val, 0, 0])
    {hsc : (slotM off inb : Memref sig (Dev.tc n : Thread nD τ).2.kind .vmem S256x8 .bf16).view.ref.isScScratch = false}
    {hsrc hdst : (slotM off inb).view.WordExact}
    {hsem : DmaTarget.Typed .vmem (.dma sR) (.remote (Dev.tc n : Thread nD τ) (slotM off inb) (.dma sS) hsc)}
    (O' O : CellTallies nD τ sig Unit) (hO : O' = O + Tt c k) (W : Waits sig Unit) :
    iprop(records m ρ K ∗ slotPts c (zc c) (Ring.shares3 fullShare k) (gath m ρ c) ∗ (∃ f, slotPts (nb c k) (zc c) fullShare f)
        ∗ owes (c : Thread nD τ) O' W ∗ dutyTok ER (sendCell c k) 0 0 ∗ dutyTok ER (recvCell (nb c k) (zc c)) 0 0)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM off inb) (.remote (Dev.tc n : Thread nD τ) (slotM off inb) (.dma sS) hsc) (.dma sR) hsrc hdst hsem) kk) Q) := by
  subst hn; subst hS; subst hR; subst hO
  iintro ⟨#HR, Hs, ⟨%fd, Hd⟩, HO, Ht, Ht'⟩
  iapply (wp_send_view m ρ K c k off inb hoff O W fd)
  isplitr; · iapply (inv_send m ρ K c k); iexact HR
  isplitr; · iapply (inv_recv m ρ K (nb c k) (zc c)); iexact HR
  isplitl [Hs]; · iapply (Entails.of_eq (slotPts_view c (zc c) (Ring.shares3 fullShare k) (gath m ρ c) off inb hoff)); iexact Hs
  isplitl [Hd]; · iapply (Entails.of_eq (slotPts_view (nb c k) (zc c) fullShare fd off inb hoff)); iexact Hd
  isplitl [HO]; · iexact HO
  isplitl [Ht]; · iexact Ht
  isplitr; · iapply (reached_send m ρ K c k); iexact HR
  isplitl [Ht']; · iexact Ht'
  iapply (reached_recv m ρ K (nb c k) (zc c)); iexact HR

/-- The wait for the arrival from peer `k`: that slot, gathered. -/
theorem wp_wait_recv {α : Type} {Q : α → sProp 𝕄} {kk : PUnit → Prog (TpuEff nD τ sig (Elt F) Λ₀ .tc) α}
    (k : Fin 3) (sR : DmaSem sig) (hR : sR = recvS (rs c k.succ))
    (off : Fin 3 → Nat) (inb : ∀ a, off a + S1x256x8.size a ≤ S4x256x8.size a)
    {hsrc hdst : (slotM off inb).view.WordExact} (W : Waits sig Unit) :
    iprop(records m ρ K ∗ cred (tallyAt (recvCell c (rs c k.succ)) () N) ∗ owes (c : Thread nD τ) 0 W ∗ atPos ER (recvCell c (rs c k.succ)) 0 ∅ 0)
      ⊢ iprop(((owes (c : Thread nD τ) 0 (insert (SemLoc.dma sR, ()) W) ∗ atPos ER (recvCell c (rs c k.succ)) 1 ∅ 0
              ∗ slotPts c (rs c k.succ) fullShare (gath m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sR (slotM off inb) (slotM off inb) hsrc hdst) kk) Q) := by
  subst hR
  iintro ⟨#HR, Hc, HO, Hat⟩ Hk
  iapply (Rounds.wp_wait_rest_token 𝒱₀ ER (Rd m ρ) (c : Thread nD τ) none (κ := K (c, iRecv (rs c k.succ)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m ρ K c (rs c k.succ)); iexact HR
    isplitl [Hc]; · iexact Hc
    isplitl [HO]; · iexact HO
    isplitr; · rw [MayWait_zero]; iempintro
    iexact Hat
  iintro ⟨HO, Hat, -, Hp⟩
  ihave Hp := (Entails.of_eq (rest_recv m ρ c k)) $$ Hp
  iapply Hk
  isplitl [HO]; · iexact HO
  isplitl [Hat]; · iexact Hat
  unfold recvPay
  iexact Hp

/-- The wait for the departure of transfer `k`: the part of this device's slot it was lent. -/
theorem wp_wait_send {α : Type} {Q : α → sProp 𝕄} {kk : PUnit → Prog (TpuEff nD τ sig (Elt F) Λ₀ .tc) α}
    (k : Fin 3) (sS : DmaSem sig) (hS : sS = sendS k)
    (off : Fin 3 → Nat) (inb : ∀ a, off a + S1x256x8.size a ≤ S4x256x8.size a)
    {hsrc hdst : (slotM off inb).view.WordExact} (W : Waits sig Unit) :
    iprop(records m ρ K ∗ cred (tallyAt (sendCell c k) () N) ∗ owes (c : Thread nD τ) 0 W ∗ atPos ER (sendCell c k) 0 ∅ 0)
      ⊢ iprop(((owes (c : Thread nD τ) 0 (insert (SemLoc.dma sS, ()) W) ∗ atPos ER (sendCell c k) 1 ∅ 0
              ∗ slotPts c (zc c) (Ring.shares3 fullShare k) (gath m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 sS (slotM off inb) (slotM off inb) hsrc hdst) kk) Q) := by
  subst hS
  iintro ⟨#HR, Hc, HO, Hat⟩ Hk
  iapply (Rounds.wp_wait_rest_token 𝒱₀ ER (Rd m ρ) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m ρ K c k); iexact HR
    isplitl [Hc]; · iexact Hc
    isplitl [HO]; · iexact HO
    isplitr; · rw [MayWait_zero]; iempintro
    iexact Hat
  iintro ⟨HO, Hat, -, Hp⟩
  ihave Hp := (Entails.of_eq (rest_send m ρ c k)) $$ Hp
  iapply Hk
  isplitl [HO]; · iexact HO
  isplitl [Hat]; · iexact Hat
  unfold sendPay
  iexact Hp

/-- A load of a slot. -/
theorem wp_load_slot {α : Type} {Q : α → sProp 𝕄} (off : Fin 3 → Nat) (inb : ∀ a, off a + S1x256x8.size a ≤ S4x256x8.size a)
    {kk : ((slotR off inb).shape.Idx → Elt F .bf16) → Prog (TpuEff nD τ sig (Elt F) Λ₀ .tc) α}
    (s : Fin 4) (hoff : off = ![s.val, 0, 0])
    {hl : (Memref.whole cc0_scratch0 : Memref sig .tc .vmem S4x256x8 .bf16).view.LoadsAt (slotR off inb).toLoadRect}
    (q : PosShare TreeShare) (f : Buf (Elt F) ((c : Thread nD τ).loc cc0_scratch0)) :
    slotPts c s q f
      ⊢ iprop((slotPts c s q f -∗ wp frame (wpE (defs₀ (F := F)) 𝒱₀ (c : Thread nD τ) none) Set.univ
            (kk ((Memref.whole cc0_scratch0 : Memref sig .tc .vmem S4x256x8 .bf16).view.readAt (Elt F) (slotR off inb).toLoadRect f)) Q)
          -∗ wp frame (wpE (defs₀ (F := F)) 𝒱₀ (c : Thread nD τ) none) Set.univ
              (.op (.load (Memref.whole cc0_scratch0 : Memref sig .tc .vmem S4x256x8 .bf16) (slotR off inb).toLoadRect hl) kk) Q) := by
  unfold slotPts
  refine wp_load_rect 𝒱₀ (c : Thread nD τ) none Set.univ (m := (Memref.whole cc0_scratch0 : Memref sig .tc .vmem S4x256x8 .bf16)) (r := slotR off inb)
    (S := slotSet s) (q := q) (f := f) ?_
  rw [← slotR_set off inb s hoff]
  exact (View.set_slice_whole (b := cc0_scratch0) (r := slotR off inb)).subset

/-- The store of this device's candidates in its slot. -/
theorem wp_store_slot {α : Type} {Q : α → sProp 𝕄} {kk : PUnit → Prog (TpuEff nD τ sig (Elt F) Λ₀ .tc) α}
    (off : Fin 3 → Nat) (inb : ∀ a, off a + S1x256x8.size a ≤ S4x256x8.size a) (hoff : off = ![(zc c).val, 0, 0])
    {hx : ((Memref.whole cc0_scratch0 : Memref sig .tc .vmem S4x256x8 .bf16).access (slotR off inb)).Stores Finset.univ}
    {hm : (Finset.univ : Finset (slotR off inb).shape.Idx) = Finset.univ ∨ ∀ a, (slotR off inb).stride a = 1}
    (f : Buf (Elt F) ((c : Thread nD τ).loc cc0_scratch0)) :
    slotPts c (zc c) fullShare f
      ⊢ iprop((slotPts c (zc c) fullShare (gath m ρ c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (Memref.whole cc0_scratch0 : Memref sig .tc .vmem S4x256x8 .bf16) (slotR off inb) (cand m ρ c) Finset.univ hx hm) kk) Q) := by
  rw [← slotPts_congr (F := F) c (zc c) fullShare _ _ fun i hi => store_gath m ρ c off inb hoff f i hi]
  unfold slotPts
  refine wp_store 𝒱₀ (c : Thread nD τ) none Set.univ (m := (Memref.whole cc0_scratch0 : Memref sig .tc .vmem S4x256x8 .bf16)) (r := slotR off inb)
    (w := cand m ρ c) (Mk := Finset.univ) (S := slotSet (zc c)) (f := f) ?_
  rw [← slotR_set off inb (zc c) hoff]
  exact (View.set_slice_whole (b := cc0_scratch0) (r := slotR off inb)).subset

end Steps

end Cert.KernelIdeal.Top

end
-- ==== Proof.Body.lean ====
/-
The kernel's body run from end to end on one device: from the peers' slots and tokens it is dealt to the gathered buffer,
the result stored and every semaphore of the exchange back at zero.
-/
module

public import proofs.«01_k».proof.Proof.Steps

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's result on device `c`: the eight results of the group's four blocks of candidates. -/
def outAt (c : Dev nD) : (cc0_stg1_0 : Ref sig .tc).ty.Contents (Elt F) :=
  top8 (cand m ρ (mate c 0)) (cand m ρ (mate c 1)) (cand m ρ (mate c 2)) (cand m ρ (mate c 3))

/-- Something for each of a device's eight cells, the arrivals in the order the device meets them. -/
theorem cells_eq (c : Dev nD) (Ψ : GSem nD τ sig → sProp 𝕄) :
    (bigSep Finset.univ fun k : Fin 8 => Ψ (kcell (c, k)))
      = iprop(Ψ (barCell c) ∗ Ψ (sendCell c 0) ∗ Ψ (sendCell c 1) ∗ Ψ (sendCell c 2)
          ∗ Ψ (recvCell c (rs c 0)) ∗ Ψ (recvCell c (rs c 1)) ∗ Ψ (recvCell c (rs c 2)) ∗ Ψ (recvCell c (rs c 3))) := by
  have h1 : ∀ c : Dev nD, [iBar, iSend 0, iSend 1, iSend 2, iRecv (rs c 0), iRecv (rs c 1), iRecv (rs c 2), iRecv (rs c 3)].Nodup := by
    decide +kernel
  have h2 : ∀ c : Dev nD, (Finset.univ : Finset (Fin 8))
      = [iBar, iSend 0, iSend 1, iSend 2, iRecv (rs c 0), iRecv (rs c 1), iRecv (rs c 2), iRecv (rs c 3)].toFinset := by
    decide +kernel
  rw [bigSep_univ_eq_bigSepL _ (h2 c) (h1 c)]
  simp only [kcell_bar, bigSepL_cons_cons, bigSepL_singleton, kcell_recv, kcell_send]
  rfl

/-- The tokens with which `c` pays its peer number `k`, and itself for the transfer there. -/
def linkToks (c : Dev nD) (k : Fin 3) : sProp 𝕄 :=
  iprop(dutyTok ER (barCell (nb c k)) 0 (opp k) ∗ dutyTok ER (recvCell (nb c k) (zc c)) 0 0 ∗ dutyTok ER (sendCell c k) 0 0)
def payToks (c : Dev nD) : sProp 𝕄 := iprop(linkToks c 0 ∗ linkToks c 1 ∗ linkToks c 2)

/-- The ghost state device `c` starts from. -/
def ghost (K : Dev nD × Fin 8 → ℕ) (c : Dev nD) : sProp 𝕄 :=
  iprop(records m ρ K ∗ (bigSep Finset.univ fun k : Fin 8 => atPos ER (kcell (c, k)) 0 ∅ 0) ∗ payToks c)

/-- With its credit and the order of the waits. -/
def start (c : Dev nD) : sProp 𝕄 :=
  iprop((∃ K, ghost m ρ K c) ∗ (cred (tallyAt (barCell c) () 3) ∗ cred (tallyAt (recvCell c (rs c 1)) () N)
    ∗ cred (tallyAt (recvCell c (rs c 2)) () N) ∗ cred (tallyAt (recvCell c (rs c 3)) () N)) ∗ levAts L lv)

def Φ₀ (c : Dev nD) : sProp 𝕄 := iprop(start m ρ c ∗ ∃ f, ((c : Thread nD τ).loc cc0_scratch0) ↦{fullShare} f)
def Φ₁ (c : Dev nD) : sProp 𝕄 :=
  iprop((((c : Thread nD τ).loc cc0_scratch0) ↦{fullShare} gath m ρ c) ∗ (bigSep Finset.univ fun k : Fin 8 => semVal (kcell (c, k)) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 8 → ℕ)

abbrev xM : Memref sig .tc .vmem S256x1024 .bf16 := Memref.whole cc0_stg0_0
abbrev oM : Memref sig .tc .vmem S256x8 .f32 := Memref.whole cc0_stg1_0
abbrev rM : Memref sig .tc .vmem S4x256x8 .bf16 := Memref.whole cc0_scratch0

theorem hz : (![0, 0] : Fin 2 → Nat) = fun _ => 0 := funext fun a => by fin_cases a <;> rfl
theorem read_x (f : (cc0_stg0_0 : Ref sig .tc).ty.Contents (Elt F)) :
    (xM : Memref sig .tc .vmem S256x1024 .bf16).view.readAt (Elt F)
      (Rect.unit (s := S256x1024) ![0, 0] S256x1024.size inb_S256x1024_S256x1024_0_0).toLoadRect f = f :=
  Memref.readAt_unit_zero (Elt F) cc0_stg0_0 hz _ f
theorem write_out (f w : (cc0_stg1_0 : Ref sig .tc).ty.Contents (Elt F)) :
    ((oM : Memref sig .tc .vmem S256x8 .f32).access
      (Rect.unit (s := S256x8) ![0, 0] S256x8.size inb_S256x8_S256x8_0_0) : View sig .tc _ _ _).write (Elt F) f w Finset.univ = w :=
  Memref.write_access_unit_zero_univ (Elt F) cc0_stg1_0 hz _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ (cred (tallyAt (barCell c) () 3) ∗ cred (tallyAt (recvCell c (rs c 1)) () N)
      ∗ cred (tallyAt (recvCell c (rs c 2)) () N) ∗ cred (tallyAt (recvCell c (rs c 3)) () N)) ∗ levAts L lv
      ∗ ∃ f, ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 8000 in
set_option maxHeartbeats 4000000 in
/-- The body, effect by effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel
    k0_part10_skel k0_part11_skel
  simp only [semSignalWord, semWaitWord, Prog.lift, Prog.bind_op, Prog.bind_ret, Prog.pure_eq_ret, wp_deviceId]
  unfold bodyPre ghost payToks linkToks
  rw [cells_eq c (fun g => atPos ER g 0 ∅ 0)]
  iintro ⟨⟨⟨⟨#HR, ⟨HaB, HaS0, HaS1, HaS2, HaV, HaV0, HaV1, HaV2⟩, ⟨HtB0, HtR0, HtS0⟩, ⟨HtB1, HtR1, HtS1⟩, HtB2, HtR2, HtS2⟩,
    ⟨HcB, HcV0, HcV1, HcV2⟩, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hs := (Entails.of_eq (slots_split (F := F) c fullShare f0)) $$ Hscr
  icases Hs with ⟨Hz, Hs0, Hs1, Hs2⟩
  -- the three signals, each handing the peer its slot
  iapply (wp_signal_peer m ρ K c _ 0 (dev1_eq c) _ (by decide) (O₀ c) (OT c + Bt c 2 + Bt c 1) rfl W f0) $$ [HO HtB0 Hs0]
  · isplitr; · iexact HR
    isplitl [HO]; · iexact HO
    isplitl [HtB0]; · iexact HtB0
    iexact Hs0
  iintro HO
  iapply (wp_signal_peer m ρ K c _ 1 (dev2_eq c) _ (by decide) (OT c + Bt c 2 + Bt c 1) (OT c + Bt c 2) rfl W f0) $$ [HO HtB1 Hs1]
  · isplitr; · iexact HR
    isplitl [HO]; · iexact HO
    isplitl [HtB1]; · iexact HtB1
    iexact Hs1
  iintro HO
  iapply (wp_signal_peer m ρ K c _ 2 (dev3_eq c) _ (by decide) (OT c + Bt c 2) (OT c) rfl W f0) $$ [HO HtB2 Hs2]
  · isplitr; · iexact HR
    isplitl [HO]; · iexact HO
    isplitl [HtB2]; · iexact HtB2
    iexact Hs2
  iintro HO
  -- this device's candidates, stored in its slot
  iapply (wp_load 𝒱₀ (c : Thread nD τ) none Set.univ (m := xM) (Finset.subset_univ _)) $$ Hx; iintro Hx
  rw [read_x]
  iapply (wp_load_slot c (k0_off1 c) (k0_off1_inb c) (zc c) (off1_eq c) fullShare f0) $$ Hz; iintro Hz
  iapply (wp_store_slot m ρ c (k0_off1 c) (k0_off1_inb c) (off1_eq c) f0) $$ Hz; iintro Hz
  -- the barrier
  iapply (wp_wait_bar m ρ K c _ (by decide) W) $$ [HcB HO HaB]
  · isplitr; · iexact HR
    isplitr; · iexact Hlev
    isplitl [HcB]; · iexact HcB
    isplitl [HO]; · iexact HO
    iexact HaB
  iintro ⟨HO, HaB, Hp0, Hp1, Hp2⟩
  unfold barPay
  icases Hp0 with ⟨Hp0, -⟩
  icases Hp1 with ⟨Hp1, -⟩
  icases Hp2 with ⟨Hp2, -⟩
  -- the three transfers, each lending a part of this device's slot
  ihave Hz' := (show slotPts c (zc c) fullShare (gath m ρ c) ⊢ iprop(slotPts c (zc c) (Ring.shares3 fullShare 0) (gath m ρ c)
      ∗ slotPts c (zc c) (Ring.shares3 fullShare 1) (gath m ρ c) ∗ slotPts c (zc c) (Ring.shares3 fullShare 2) (gath m ρ c)) from by
    unfold slotPts; exact (Ring.pointsTo_thirds fullShare (gath m ρ c)).1) $$ Hz
  icases Hz' with ⟨Hz0, Hz1, Hz2⟩
  iapply (wp_send_peer m ρ K c _ 0 (dev4_eq c) _ _ sendS_0 (recvS_off (k0_off2 c) (k0_off2_inb c) (zc c) (off2_eq c)) (k0_off3 c) (k0_off3_inb c) (off3_eq c)
    (OT c) (Tt c 2 + Tt c 1) rfl _) $$ [Hz0 Hp0 HO HtS0 HtR0]
  · isplitr; · iexact HR
    isplitl [Hz0]; · iexact Hz0
    isplitl [Hp0]; · iexact Hp0
    isplitl [HO]; · iexact HO
    isplitl [HtS0]; · iexact HtS0
    iexact HtR0
  iintro ⟨HcS0, HO⟩
  iapply (wp_send_peer m ρ K c _ 1 (dev5_eq c) _ _ sendS_1 (recvS_off (k0_off2 c) (k0_off2_inb c) (zc c) (off2_eq c)) (k0_off3 c) (k0_off3_inb c) (off3_eq c)
    (Tt c 2 + Tt c 1) (Tt c 2) rfl _) $$ [Hz1 Hp1 HO HtS1 HtR1]
  · isplitr; · iexact HR
    isplitl [Hz1]; · iexact Hz1
    isplitl [Hp1]; · iexact Hp1
    isplitl [HO]; · iexact HO
    isplitl [HtS1]; · iexact HtS1
    iexact HtR1
  iintro ⟨HcS1, HO⟩
  iapply (wp_send_peer m ρ K c _ 2 (dev6_eq c) _ _ sendS_2 (recvS_off (k0_off2 c) (k0_off2_inb c) (zc c) (off2_eq c)) (k0_off3 c) (k0_off3_inb c) (off3_eq c)
    (Tt c 2) 0 (zero_add _).symm _) $$ [Hz2 Hp2 HO HtS2 HtR2]
  · isplitr; · iexact HR
    isplitl [Hz2]; · iexact Hz2
    isplitl [Hp2]; · iexact Hp2
    isplitl [HO]; · iexact HO
    isplitl [HtS2]; · iexact HtS2
    iexact HtR2
  iintro ⟨HcS2, HO⟩
  -- the three arrivals
  iapply (wp_wait_recv m ρ K c 0 _ (recvS_off (k0_off4 c 1#32) (k0_off4_inb c 0) (rs c 1) (off4_eq c 0)) (k0_off5 c 1#32) (k0_off5_inb c 0) _) $$ [HcV0 HO HaV0]
  · isplitr; · iexact HR
    isplitl [HcV0]; · iexact HcV0
    isplitl [HO]; · iexact HO
    iexact HaV0
  iintro ⟨HO, HaV0, Hs0⟩
  iapply (wp_wait_recv m ρ K c 1 _ (recvS_off (k0_off4 c 2#32) (k0_off4_inb c 1) (rs c 2) (off4_eq c 1)) (k0_off5 c 2#32) (k0_off5_inb c 1) _) $$ [HcV1 HO HaV1]
  · isplitr; · iexact HR
    isplitl [HcV1]; · iexact HcV1
    isplitl [HO]; · iexact HO
    iexact HaV1
  iintro ⟨HO, HaV1, Hs1⟩
  iapply (wp_wait_recv m ρ K c 2 _ (recvS_off (k0_off4 c 3#32) (k0_off4_inb c 2) (rs c 3) (off4_eq c 2)) (k0_off5 c 3#32) (k0_off5_inb c 2) _) $$ [HcV2 HO HaV2]
  · isplitr; · iexact HR
    isplitl [HcV2]; · iexact HcV2
    isplitl [HO]; · iexact HO
    iexact HaV2
  iintro ⟨HO, HaV2, Hs2⟩
  -- the three departures
  iapply (wp_wait_send m ρ K c 0 _ sendS_0 (k0_off3 c) (k0_off3_inb c) _) $$ [HcS0 HO HaS0]
  · isplitr; · iexact HR
    isplitl [HcS0]; · iexact HcS0
    isplitl [HO]; · iexact HO
    iexact HaS0
  iintro ⟨HO, HaS0, Hz0⟩
  iapply (wp_wait_send m ρ K c 1 _ sendS_1 (k0_off3 c) (k0_off3_inb c) _) $$ [HcS1 HO HaS1]
  · isplitr; · iexact HR
    isplitl [HcS1]; · iexact HcS1
    isplitl [HO]; · iexact HO
    iexact HaS1
  iintro ⟨HO, HaS1, Hz1⟩
  iapply (wp_wait_send m ρ K c 2 _ sendS_2 (k0_off3 c) (k0_off3_inb c) _) $$ [HcS2 HO HaS2]
  · isplitr; · iexact HR
    isplitl [HcS2]; · iexact HcS2
    isplitl [HO]; · iexact HO
    iexact HaS2
  iintro ⟨HO, HaS2, Hz2⟩
  -- the buffer whole again
  ihave Hz := (show iprop(slotPts c (zc c) (Ring.shares3 fullShare 0) (gath m ρ c)
      ∗ slotPts c (zc c) (Ring.shares3 fullShare 1) (gath m ρ c) ∗ slotPts c (zc c) (Ring.shares3 fullShare 2) (gath m ρ c))
      ⊢ slotPts c (zc c) fullShare (gath m ρ c) from by
    unfold slotPts; exact (Ring.pointsTo_thirds fullShare (gath m ρ c)).2) $$ [Hz0 Hz1 Hz2]
  · isplitl [Hz0]; · iexact Hz0
    isplitl [Hz1]; · iexact Hz1
    iexact Hz2
  ihave Hscr := (Entails.of_eq (slots_split (F := F) c fullShare (gath m ρ c)).symm) $$ [Hz Hs0 Hs1 Hs2]
  · isplitl [Hz]; · iexact Hz
    isplitl [Hs0]; · iexact Hs0
    isplitl [Hs1]; · iexact Hs1
    iexact Hs2
  -- every cell closes
  imod (Rounds.cell_close ER (Rd m ρ) (Set.mem_univ (K (c, iBar))) (fun h => h) (R := 1) (duties_later m ρ (barCell c))) $$ [HaB] with HvB
  · isplitr; · iapply (inv_bar m ρ K c); iexact HR
    iexact HaB
  imod (Rounds.cell_close ER (Rd m ρ) (Set.mem_univ (K (c, iSend 0))) (fun h => h) (R := 1) (duties_later m ρ (sendCell c 0))) $$ [HaS0] with HvS0
  · isplitr; · iapply (inv_send m ρ K c 0); iexact HR
    iexact HaS0
  imod (Rounds.cell_close ER (Rd m ρ) (Set.mem_univ (K (c, iSend 1))) (fun h => h) (R := 1) (duties_later m ρ (sendCell c 1))) $$ [HaS1] with HvS1
  · isplitr; · iapply (inv_send m ρ K c 1); iexact HR
    iexact HaS1
  imod (Rounds.cell_close ER (Rd m ρ) (Set.mem_univ (K (c, iSend 2))) (fun h => h) (R := 1) (duties_later m ρ (sendCell c 2))) $$ [HaS2] with HvS2
  · isplitr; · iapply (inv_send m ρ K c 2); iexact HR
    iexact HaS2
  imod (Rounds.cell_close ER (Rd m ρ) (Set.mem_univ (K (c, iRecv (rs c 0)))) (fun h => h) (R := 0) (fun r _ => duties_own m ρ c r)) $$ [HaV] with HvV
  · isplitr; · iapply (inv_recv m ρ K c (rs c 0)); iexact HR
    iexact HaV
  imod (Rounds.cell_close ER (Rd m ρ) (Set.mem_univ (K (c, iRecv (rs c 1)))) (fun h => h) (R := 1) (duties_later m ρ (recvCell c (rs c 1)))) $$ [HaV0] with HvV0
  · isplitr; · iapply (inv_recv m ρ K c (rs c 1)); iexact HR
    iexact HaV0
  imod (Rounds.cell_close ER (Rd m ρ) (Set.mem_univ (K (c, iRecv (rs c 2)))) (fun h => h) (R := 1) (duties_later m ρ (recvCell c (rs c 2)))) $$ [HaV1] with HvV1
  · isplitr; · iapply (inv_recv m ρ K c (rs c 2)); iexact HR
    iexact HaV1
  imod (Rounds.cell_close ER (Rd m ρ) (Set.mem_univ (K (c, iRecv (rs c 3)))) (fun h => h) (R := 1) (duties_later m ρ (recvCell c (rs c 3)))) $$ [HaV2] with HvV2
  · isplitr; · iapply (inv_recv m ρ K c (rs c 3)); iexact HR
    iexact HaV2
  -- the four slots read, the result stored
  iapply (wp_load 𝒱₀ (c : Thread nD τ) none Set.univ (m := rM) (Finset.subset_univ _)) $$ Hscr; iintro Hscr
  rw [load_gath m ρ c ![0, 0, 0] inb_S4x256x8_S1x256x8_0_0_0 0 rfl]
  iapply (wp_load 𝒱₀ (c : Thread nD τ) none Set.univ (m := rM) (Finset.subset_univ _)) $$ Hscr; iintro Hscr
  rw [load_gath m ρ c ![1, 0, 0] inb_S4x256x8_S1x256x8_1_0_0 1 rfl]
  iapply (wp_load 𝒱₀ (c : Thread nD τ) none Set.univ (m := rM) (Finset.subset_univ _)) $$ Hscr; iintro Hscr
  rw [load_gath m ρ c ![2, 0, 0] inb_S4x256x8_S1x256x8_2_0_0 2 rfl]
  iapply (wp_load 𝒱₀ (c : Thread nD τ) none Set.univ (m := rM) (Finset.subset_univ _)) $$ Hscr; iintro Hscr
  rw [load_gath m ρ c ![3, 0, 0] inb_S4x256x8_S1x256x8_3_0_0 3 rfl]
  iapply (wp_load 𝒱₀ (c : Thread nD τ) none Set.univ (m := oM) (Finset.subset_univ _)) $$ Hout; iintro Hout
  iapply (wp_store 𝒱₀ (c : Thread nD τ) none Set.univ (m := oM)
    (r := Rect.unit (s := S256x8) ![0, 0] S256x8.size inb_S256x8_S256x8_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl, cells_eq c (fun g => semVal g 0)]
  isplitl [Hscr HvB HvS0 HvS1 HvS2 HvV HvV0 HvV1 HvV2]
  · isplitl [Hscr]; · iexact Hscr
    isplitl [HvB]; · iexact HvB
    isplitl [HvS0]; · iexact HvS0
    isplitl [HvS1]; · iexact HvS1
    isplitl [HvS2]; · iexact HvS2
    isplitl [HvV]; · iexact HvV
    isplitl [HvV0]; · iexact HvV0
    isplitl [HvV1]; · iexact HvV1
    iexact HvV2
  isplitl [HO]
  · iexists _
    isplitr; rotate_left; · iexact HO
    ipureintro; exact fun _ _ => Or.inl trivial
  isplitl [Hx]
  · iexists _; isplitr; · (ipureintro; rfl)
    iexact Hx
  iexists _; isplitr; rotate_left; · iexact Hout
  ipureintro; rfl

end Body

end Cert.KernelIdeal.Top

end
-- ==== Proof.Launch.lean ====
/-
The launch: every device's cells funded and their duty tokens dealt to the peers that pay them, the launch credit
split, and the run of the whole program.
-/
module

public import proofs.«01_k».proof.Proof.Body
public import Idealize.ShloMosaic.Lib.Pipeline.CollectiveSegs

@[expose] public section

noncomputable section

namespace Cert.KernelIdeal.Top

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

/-- What the body starts from, its window's staging buffers included. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body meets the pipeline's obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    iexact Hout
  · iintro H; iexact H

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_inj : ∀ k k' : Fin 8, csem k = csem k' → k = k' := by decide +kernel

theorem kcell_injective : Function.Injective (kcell : Dev nD × Fin 8 → GSem nD τ sig) := by
  rintro ⟨c, k⟩ ⟨c', k'⟩ h
  obtain rfl : c = c' := congrArg (fun g : GSem nD τ sig => g.1.1) h
  rw [csem_inj k k' (congrArg Prod.snd h)]

/-- Every cell of the exchange. -/
def allCells : Finset (GSem nD τ sig) := Finset.univ.map ⟨kcell, kcell_injective⟩

/-- A device's duties: of each kind three, the barrier's units, the arrivals, the departures. -/
abbrev dutyAt (c : Dev nD) (x : Fin 3 × Fin 3) : SemLoc sig × Fin 3 := match x.2 with
  | 0 => (.reg barS, x.1)
  | 1 => (.dma (recvS (rs c x.1.succ)), 0)
  | 2 => (.dma (sendS x.1), 0)

theorem dutyAt_inj : ∀ (c : Dev nD) (x y : Fin 3 × Fin 3), dutyAt c x = dutyAt c y → x = y := by decide +kernel

abbrev tokOf (cx : Dev nD × (Fin 3 × Fin 3)) : GSem nD τ sig × ℕ × Fin 3 :=
  (((cx.1 : Thread nD τ), (dutyAt cx.1 cx.2).1), 0, (dutyAt cx.1 cx.2).2)

theorem tokOf_injective : Function.Injective tokOf := by
  rintro ⟨c, x⟩ ⟨c', y⟩ h
  obtain rfl : c = c' := congrArg (fun z : GSem nD τ sig × ℕ × Fin 3 => z.1.1.1) h
  rw [dutyAt_inj c x y (Prod.ext (congrArg (fun z : GSem nD τ sig × ℕ × Fin 3 => z.1.2) h) (congrArg (fun z : GSem nD τ sig × ℕ × Fin 3 => z.2.2) h))]

def allToks : Finset (GSem nD τ sig × ℕ × Fin 3) := Finset.univ.map ⟨tokOf, tokOf_injective⟩

/-- The ghost element of the launch: the pipeline's cells and the exchange's. -/
def u₀ : UU :=
  (initOf (Pipeline.cells cfgs cellOf_inj) (Pipeline.launchToks cfgs cellOf_inj), initOf allCells allToks)

/-- The tokens of the `k`-th duties of `c`'s own cells. -/
def toks (c : Dev nD) (k : Fin 3) : sProp 𝕄 :=
  iprop(dutyTok ER (barCell c) 0 k ∗ dutyTok ER (recvCell c (rs c k.succ)) 0 0 ∗ dutyTok ER (sendCell c k) 0 0)

/-- What the launch deals device `c`. -/
def G (c : Dev nD) : sProp 𝕄 :=
  iprop((bigSep Finset.univ fun k : Fin 8 => roundState ER (Rd m ρ) (kcell (c, k)) 0)
    ∗ (bigSep Finset.univ fun k : Fin 8 => iprop(atPos ER (kcell (c, k)) 0 ∅ 0 ∗ reached ER (kcell (c, k)) 0))
    ∗ bigSep Finset.univ fun k : Fin 3 => toks c k)

/-- What the allocation of the invariants makes of it. -/
def G' (c : Dev nD) : sProp 𝕄 := iprop(∃ K, ghost m ρ K c)

theorem three (Φ : Fin 3 → sProp 𝕄) : bigSep Finset.univ Φ = iprop(Φ 0 ∗ Φ 1 ∗ Φ 2) :=
  bigSep_univ_eq_bigSepL [0, 1, 2] (by decide) (by decide) Φ

theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Fin 3 => toks c k := by
    unfold allToks; rw [bigSep_map, bigSep_univ_prod]
    refine bigSep_congr fun c _ => ?_
    rw [bigSep_univ_prod]
    refine bigSep_congr fun k _ => ?_
    unfold toks; rw [three]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The semaphores at zero -/

/-- The launch's own and unscoped semaphores are a device's eight cells. -/
theorem sems0_eq (c : Dev nD) :
    (bigSep Finset.univ fun k : Fin 8 => semVal (kcell (c, k)) 0 : sProp 𝕄)
      = iprop(unscopedSems0 c ∗ Pipeline.ownSems0 (Ix := Unit) (Name := ℕ) (U := UU) (Lvl := ℕ) (Val := Elt F) (τ := τ) osem c) := by
  rw [show (unscopedSems0 c : sProp 𝕄) = semVal (barCell c) 0 from by
      unfold unscopedSems0; rw [bigSep_eq_bigSepL_of_eq [SemLoc.reg barS] (by decide) (by decide)]; rfl,
    Pipeline.ownSems0_eq_of_list c osem [0, 1, 2, 3, 4, 5, 6] (by decide) (by decide),
    bigSep_univ_eq_bigSepL [0, 1, 2, 3, 4, 5, 6, 7] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun k : Fin 3 => toks c k) := by
  unfold G
  iintro ⟨Hos, Hus, Hst, Hat, Htok⟩
  ihave Hv := (Entails.of_eq (sems0_eq (F := F) c).symm) $$ [Hos Hus]
  · isplitl [Hus]; · iexact Hus
    iexact Hos
  imod (show iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What of the ghost state stays with a device alone. -/
def own0 (c : Dev nD) : sProp 𝕄 :=
  iprop((bigSep Finset.univ fun k : Fin 8 => atPos ER (kcell (c, k)) 0 ∅ 0) ∗ payToks c)

theorem ghost_intro (K : Dev nD × Fin 8 → ℕ) (c : Dev nD) : iprop(records m ρ K ∗ own0 c) ⊢ G' m ρ c := by
  unfold own0 G' ghost
  iintro ⟨#HR, Hat, Ht⟩
  iexists K
  isplitr; · iexact HR
  isplitl [Hat]; · iexact Hat
  iexact Ht

/-- Every token goes to the device that pays it. -/
theorem toks_deal : (bigSep Finset.univ fun c : Dev nD => bigSep Finset.univ fun k : Fin 3 => (toks c k : sProp 𝕄))
    ⊢ bigSep Finset.univ fun c : Dev nD => payToks c := by
  have h1 : (bigSep Finset.univ fun c : Dev nD => (payToks c : sProp 𝕄)) = bigSep Finset.univ fun ck : Dev nD × Fin 3 => linkToks ck.1 ck.2 := by
    rw [bigSep_univ_prod]; exact bigSep_congr fun c _ => by rw [three]; rfl
  rw [h1, ← bigSep_univ_prod (fun ck : Dev nD × Fin 3 => (toks ck.1 ck.2 : sProp 𝕄))]
  unfold toks linkToks
  rw [bigSep_sep', bigSep_sep', bigSep_sep', bigSep_sep',
    bigSep_univ_equiv links (fun ck : Dev nD × Fin 3 => (dutyTok ER (barCell ck.1) 0 ck.2 : sProp 𝕄)),
    bigSep_univ_equiv links (fun ck : Dev nD × Fin 3 => (dutyTok ER (recvCell ck.1 (rs ck.1 ck.2.succ)) 0 0 : sProp 𝕄))]
  have h2 : (bigSep Finset.univ fun ck : Dev nD × Fin 3 => (dutyTok ER (recvCell (links ck).1 (rs (links ck).1 (links ck).2.succ)) 0 0 : sProp 𝕄))
      = bigSep Finset.univ fun ck : Dev nD × Fin 3 => dutyTok ER (recvCell (nb ck.1 ck.2) (zc ck.1)) 0 0 :=
    bigSep_congr fun ck _ => by
      show dutyTok ER (recvCell (nb ck.1 ck.2) (rs (nb ck.1 ck.2) (opp ck.2).succ)) 0 0 = _
      rw [rs_opp]
  rw [h2]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun k : Fin 3 => toks c k) : sProp 𝕄)
      ⊢ bigSep Finset.univ (G' m ρ) := by
  rw [bigSep_sep', bigSep_sep', ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (Rd m ρ) κ (kcell ck) : sProp 𝕄))) $$ HI
  icases HK with ⟨%K, #HI⟩
  ihave Htk := (toks_deal (F := F)) $$ Htok
  iapply (with_persistent (R := records m ρ K) fun c _ => ghost_intro m ρ K c)
  isplitr
  · unfold records; isplitl; · iexact HI
    iexact HR
  · unfold own0
    iapply (Entails.of_eq (bigSep_sep' Finset.univ (fun c : Dev nD => bigSep Finset.univ fun k : Fin 8 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tc_eq_iff {a b : Dev nD} {s t : SemLoc sig} :
    ((((a : Dev nD) : Thread nD τ), s) : GSem nD τ sig) = ((b : Thread nD τ), t) ↔ a = b ∧ s = t :=
  ⟨fun h => ⟨congrArg (fun g : GSem nD τ sig => g.1.1) h, congrArg Prod.snd h⟩, fun ⟨h1, h2⟩ => by rw [h1, h2]⟩

/-- One link's share in the tally of the semaphore `s` of `c`. -/
theorem tally_at (c : Dev nD) (s : SemLoc sig) (d : Dev nD) (t : SemLoc sig) (n : ℕ) :
    (tallyAt (((d : Dev nD) : Thread nD τ), t) () n : CellTallies nD τ sig Unit) ((c : Thread nD τ), s) () = n * if c = d ∧ s = t then 1 else 0 := by
  rw [tallyAt_apply]
  by_cases h : c = d ∧ s = t
  · rw [if_pos ⟨tc_eq_iff.mpr h, rfl⟩, if_pos h, Nat.mul_one]
  · rw [if_neg fun h' => h (tc_eq_iff.mp h'.1), if_neg h, Nat.mul_zero]

/-- The units and the transfers `d` owes the semaphore `s` of `c`, counted. -/
abbrev owedT (c d : Dev nD) (s : SemLoc sig) : ℕ :=
  (if c = nb d 2 ∧ s = .dma (recvS (zc d)) then 1 else 0) + (if c = nb d 1 ∧ s = .dma (recvS (zc d)) then 1 else 0)
    + (if c = nb d 0 ∧ s = .dma (recvS (zc d)) then 1 else 0)
abbrev owedB (c d : Dev nD) (s : SemLoc sig) : ℕ :=
  (if c = nb d 2 ∧ s = .reg barS then 1 else 0) + (if c = nb d 1 ∧ s = .reg barS then 1 else 0) + (if c = nb d 0 ∧ s = .reg barS then 1 else 0)

theorem owed_at (c d : Dev nD) (s : SemLoc sig) : O₀ d ((c : Thread nD τ), s) () = N * owedT c d s + owedB c d s := by
  unfold O₀ OT
  simp only [Pi.add_apply, Finsupp.add_apply]
  rw [tally_at, tally_at, tally_at, tally_at, tally_at, tally_at]
  unfold owedT owedB
  simp only [Nat.mul_add, Nat.one_mul, Nat.add_assoc]

theorem sumT_bar : ∀ c : Dev nD, ∑ d : Dev nD, owedT c d (.reg barS) = 0 := by decide +kernel
theorem sumB_bar : ∀ c : Dev nD, ∑ d : Dev nD, owedB c d (.reg barS) = 3 := by decide +kernel
theorem sumT_recv : ∀ (c : Dev nD) (k : Fin 3), ∑ d : Dev nD, owedT c d (.dma (recvS (rs c k.succ))) = 1 := by decide +kernel
theorem sumB_recv : ∀ (c : Dev nD) (k : Fin 3), ∑ d : Dev nD, owedB c d (.dma (recvS (rs c k.succ))) = 0 := by decide +kernel

theorem launch_at (c : Dev nD) (s : SemLoc sig) (n : ℕ)
    (h : N * (∑ d : Dev nD, owedT c d s) + (∑ d : Dev nD, owedB c d s) = n) :
    tallyOn ((c : Thread nD τ), s) (launchCredit (Pipeline.owing O₀) 0 ((c : Thread nD τ), s))
      = (tallyAt ((c : Thread nD τ), s) () n : CellTallies nD τ sig Unit) := by
  unfold tallyAt; refine congrArg _ (Finsupp.ext fun u => ?_); cases u
  rw [Pipeline.launchCredit_owing, Finsupp.single_eq_same, Finset.sum_congr rfl fun d _ => owed_at c d s, Finset.sum_add_distrib, ← Finset.mul_sum, h]

theorem four (Φ : SemLoc sig → sProp 𝕄) (c : Dev nD) :
    bigSep Finset.univ Φ ⊢ iprop(Φ (.reg barS) ∗ Φ (.dma (recvS (rs c 1))) ∗ Φ (.dma (recvS (rs c 2))) ∗ Φ (.dma (recvS (rs c 3)))) := by
  have hn : ∀ c : Dev nD, [SemLoc.reg barS, .dma (recvS (rs c 1)), .dma (recvS (rs c 2)), .dma (recvS (rs c 3))].Nodup := by decide +kernel
  refine (BI.bigSep_subset (Finset.subset_univ
    ([SemLoc.reg barS, .dma (recvS (rs c 1)), .dma (recvS (rs c 2)), .dma (recvS (rs c 3))] : List (SemLoc sig)).toFinset)).trans ?_
  exact Entails.of_eq (bigSep_eq_bigSepL_of_eq _ rfl (hn c) _)

theorem creds (c : Dev nD) :
    (Pipeline.launchCred O₀ c : sProp 𝕄) ⊢ iprop(cred (tallyAt (barCell c) () 3) ∗ cred (tallyAt (recvCell c (rs c 1)) () N)
      ∗ cred (tallyAt (recvCell c (rs c 2)) () N) ∗ cred (tallyAt (recvCell c (rs c 3)) () N)) := by
  have hb := launch_at c (.reg barS) 3 (by rw [sumT_bar, sumB_bar, Nat.mul_zero])
  have hr := fun k : Fin 3 => launch_at c (.dma (recvS (rs c k.succ))) N (by rw [sumT_recv, sumB_recv, Nat.mul_one, Nat.add_zero])
  unfold Pipeline.launchCred
  refine (four _ c).trans ?_
  rw [hb]
  have h1 := congrArg (fun x : CellTallies nD τ sig Unit => (cred x : sProp 𝕄)) (hr 0)
  have h2 := congrArg (fun x : CellTallies nD τ sig Unit => (cred x : sProp 𝕄)) (hr 1)
  have h3 := congrArg (fun x : CellTallies nD τ sig Unit => (cred x : sProp 𝕄)) (hr 2)
  exact BIClass.sep_mono .rfl (BIClass.sep_mono (Entails.of_eq h1) (BIClass.sep_mono (Entails.of_eq h2) (Entails.of_eq h3)))

/-! ## The region's entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hr, Hu, Ho⟩
  isplitl [Hu]; · iexact Hu
  isplitl [Ho]; · iexact Ho
  iexists (gath m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution ends, each device's arrays at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Top

end
-- ==== Proof.Frames.lean ====
/-
The frame claims of the four programs: each ends, leaves its argument as it was and every semaphore at zero.
-/
module

public import proofs.«01_k».proof.Proof.Launch
public import proofs.«01_k».proof.Proof.Bits.Launch
public import proofs.«01_k».proof.Proof.Gen.ReferenceIdeal.Run
public import proofs.«01_k».proof.Proof.Gen.DistinctIdeal.Run
public import proofs.«01_k».proof.Defs

@[expose] public section

noncomputable section

namespace Cert.Top

open Idealize.ShloMosaic Idealize.SL.Sem
open Idealize.ShloMosaic.TcCoe

/-- The program run bit for bit. -/
theorem frame_kernel : Cert.quiescent_Kernel := by
  intro m ρ _
  exact (θ_run Cert.Kernel.defs _ _).mono
    (fun _ h => ⟨fun c => (h.1 c (0 : Fin 2)).trans (Cert.Kernel.Top.finalA_x m ρ c), h.2⟩) (Cert.Kernel.Top.run_main (F := Bits) m ρ)

/-- The program read at the ideal. -/
theorem frame_ideal : Cert.quiescent_KernelIdeal := by
  intro m ρ _
  exact (θ_run Cert.KernelIdeal.defs _ _).mono
    (fun _ h => ⟨fun c => (h.1 c (0 : Fin 2)).trans (Cert.KernelIdeal.Top.finalA_x m ρ c), h.2⟩) (Cert.KernelIdeal.Top.run_main (F := Ideal) m ρ)

/-- The reference. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- The reference of a row whose equal elements count once. -/
theorem frame_distinct : Cert.quiescent_DistinctIdeal := by
  intro m ρ _
  exact (θ_run Cert.DistinctIdeal.defs _ _).mono
    (fun r h => ⟨fun c => (h c).2, sem_eq_zero_of_no_sems (by decide) r.2⟩) (Cert.DistinctIdeal.Value.run (F := Ideal) m ρ)

end Cert.Top

end
-- ==== Proof.Rank.lean ====
/-
The mathematics: the `j`-th largest of a finite family's different values, got by taking the largest and striking out
its copies, and what that is of a family merged from parts and of a family in order.
-/
module

public import Mathlib.Data.EReal.Basic
public import Mathlib.Data.Finset.Lattice.Fold
public import Mathlib.Data.Fintype.Basic

@[expose] public section

noncomputable section

namespace Cert.Rank

open Classical in
/-- The family with the copies of its largest value struck out. -/
def strike {ι : Type} [Fintype ι] (v : ι → EReal) : ι → EReal := fun i => if v i = Finset.univ.sup v then ⊥ else v i

/-- The family after `j` strikes. -/
def struck {ι : Type} [Fintype ι] (v : ι → EReal) : ℕ → ι → EReal
  | 0 => v
  | j + 1 => strike (struck v j)

/-- The `j`-th largest different value, minus infinity past the last. -/
def rank {ι : Type} [Fintype ι] (v : ι → EReal) (j : ℕ) : EReal := Finset.univ.sup (struck v j)

open Classical in
/-- The largest value below `e`. -/
def below {ι : Type} [Fintype ι] (v : ι → EReal) (e : EReal) : EReal := Finset.univ.sup fun i => if v i < e then v i else ⊥

variable {ι κ : Type} [Fintype ι] [Fintype κ]

theorem le_sup (v : ι → EReal) (i : ι) : v i ≤ Finset.univ.sup v := Finset.le_sup (f := v) (Finset.mem_univ i)

/-- A supremum is minus infinity or reached. -/
theorem sup_mem (v : ι → EReal) : Finset.univ.sup v = ⊥ ∨ ∃ i, v i = Finset.univ.sup v := by
  by_cases h : (Finset.univ : Finset ι).Nonempty
  · obtain ⟨i, -, hi⟩ := Finset.exists_mem_eq_sup _ h v
    exact .inr ⟨i, hi.symm⟩
  · rw [Finset.not_nonempty_iff_eq_empty.mp h]
    exact .inl rfl

theorem le_below (v : ι → EReal) (e : EReal) (i : ι) (h : v i < e) : v i ≤ below v e := by
  classical
  have := le_sup (fun i => if v i < e then v i else ⊥) i
  rwa [if_pos h] at this

theorem below_le (v : ι → EReal) (e b : EReal) (h : ∀ i, v i < e → v i ≤ b) : below v e ≤ b := by
  classical
  refine Finset.sup_le fun i _ => ?_
  by_cases hi : v i < e
  · rw [if_pos hi]; exact h i hi
  · rw [if_neg hi]; exact bot_le

/-- What lies below `e` is minus infinity or a value less than `e`. -/
theorem below_mem (v : ι → EReal) (e : EReal) : below v e = ⊥ ∨ ∃ i, v i = below v e ∧ v i < e := by
  classical
  rcases sup_mem (fun i => if v i < e then v i else ⊥) with h | ⟨i, hi⟩
  · exact .inl h
  · by_cases hl : v i < e
    · rw [if_pos hl] at hi; exact .inr ⟨i, hi, hl⟩
    · rw [if_neg hl] at hi; exact .inl hi.symm

theorem rank_zero (v : ι → EReal) : rank v 0 = Finset.univ.sup v := rfl

/-- After a strike the values below the last rank are left. -/
theorem struck_succ (v : ι → EReal) (j : ℕ) (i : ι) : struck v (j + 1) i = open Classical in if v i < rank v j then v i else ⊥ := by
  classical
  induction j with
  | zero =>
    show (if v i = Finset.univ.sup v then ⊥ else v i) = if v i < Finset.univ.sup v then v i else ⊥
    by_cases h : v i = Finset.univ.sup v
    · rw [if_pos h, if_neg (by rw [h]; exact lt_irrefl _)]
    · rw [if_neg h, if_pos (lt_of_le_of_ne (le_sup v i) h)]
  | succ j ih =>
    show (if struck v (j + 1) i = rank v (j + 1) then ⊥ else struck v (j + 1) i) = _
    have hle : struck v (j + 1) i ≤ rank v (j + 1) := le_sup _ i
    have hr : ∀ k, struck v (j + 1) k ≤ rank v j := fun k => by
      by_cases hj : j = 0
      · subst hj
        show (if v k = Finset.univ.sup v then ⊥ else v k) ≤ Finset.univ.sup v
        split
        · exact bot_le
        · exact le_sup v k
      · show (if struck v j k = rank v j then ⊥ else struck v j k) ≤ _
        split
        · exact bot_le
        · exact le_sup _ k
    have hrr : rank v (j + 1) ≤ rank v j := Finset.sup_le fun k _ => hr k
    rw [ih]
    rw [ih] at hle
    by_cases h : v i < rank v j
    · rw [if_pos h]
      rw [if_pos h] at hle
      by_cases h' : v i = rank v (j + 1)
      · rw [if_pos h', if_neg (by rw [h']; exact lt_irrefl _)]
      · rw [if_neg h', if_pos (lt_of_le_of_ne hle h')]
    · rw [if_neg h, if_neg (fun h' => h (lt_of_lt_of_le h' hrr))]
      split <;> rfl

theorem rank_succ (v : ι → EReal) (j : ℕ) : rank v (j + 1) = below v (rank v j) := by
  unfold below
  exact Finset.sup_congr rfl fun i _ => struck_succ v j i

/-- A rank is minus infinity or a value. -/
theorem rank_mem (v : ι → EReal) (j : ℕ) : rank v j = ⊥ ∨ ∃ i, v i = rank v j := by
  cases j with
  | zero => exact sup_mem v
  | succ j =>
    rw [rank_succ]
    exact (below_mem v _).imp_right fun ⟨i, h, _⟩ => ⟨i, h⟩

/-- Every value of `v` but minus infinity is a value of `w`. -/
def Within (v : ι → EReal) (w : κ → EReal) : Prop := ∀ i, v i = ⊥ ∨ ∃ k, w k = v i

theorem sup_mono (v : ι → EReal) (w : κ → EReal) (h : Within v w) : Finset.univ.sup v ≤ Finset.univ.sup w :=
  Finset.sup_le fun i _ => by
    rcases h i with h | ⟨k, h⟩
    · rw [h]; exact bot_le
    · rw [← h]; exact le_sup w k

theorem below_mono (v : ι → EReal) (w : κ → EReal) (h : Within v w) (e : EReal) : below v e ≤ below w e :=
  below_le v e _ fun i hi => by
    rcases h i with h | ⟨k, h⟩
    · rw [h]; exact bot_le
    · rw [← h]; exact le_below w e k (by rw [h]; exact hi)

/-- Families with the same values have the same ranks. -/
theorem rank_congr (v : ι → EReal) (w : κ → EReal) (h : Within v w) (h' : Within w v) (j : ℕ) : rank v j = rank w j := by
  induction j with
  | zero => exact le_antisymm (sup_mono v w h) (sup_mono w v h')
  | succ j ih =>
    rw [rank_succ, rank_succ, ih]
    exact le_antisymm (below_mono v w h _) (below_mono w v h' _)

/-- What a part of the family holds below a rank of the whole is one of the part's own first ranks. -/
theorem part_below (v : ι → EReal) (p : κ → EReal) (h : Within p v) (j : ℕ) : ∃ k, k ≤ j + 1 ∧ rank p k = below p (rank v j) := by
  have step : ∀ (e f : EReal) (k : ℕ), below p f ≤ e → e ≤ f → rank p k = below p f →
      ∃ k', k' ≤ k + 1 ∧ rank p k' = below p e := fun e f k hp hef hk => by
    rcases eq_or_lt_of_le hp with h1 | h1
    · exact ⟨k + 1, le_rfl, by rw [rank_succ, hk, h1]⟩
    · refine ⟨k, Nat.le_succ k, hk.trans (le_antisymm (below_le p f _ fun i hi => ?_) (below_le p e _ fun i hi => ?_))⟩
      · exact le_below p e i (lt_of_le_of_lt (le_below p f i hi) h1)
      · exact le_below p f i (lt_of_lt_of_le hi hef)
  induction j with
  | zero =>
    have hp : Finset.univ.sup p ≤ Finset.univ.sup v := sup_mono p v h
    rcases eq_or_lt_of_le hp with h1 | h1
    · exact ⟨1, le_rfl, by rw [rank_succ, rank_zero, rank_zero, h1]⟩
    · refine ⟨0, Nat.zero_le _, le_antisymm (Finset.sup_le fun i _ => ?_) (below_le p _ _ fun i _ => le_sup p i)⟩
      exact le_below p _ i (lt_of_le_of_lt (le_sup p i) h1)
  | succ j ih =>
    obtain ⟨k, hk, he⟩ := ih
    have h1 : below p (rank v j) ≤ rank v (j + 1) := by rw [rank_succ]; exact below_mono p v h _
    have h2 : rank v (j + 1) ≤ rank v j := by
      rw [rank_succ]; exact below_le v _ _ fun i hi => hi.le
    obtain ⟨k', hk', he'⟩ := step _ _ k h1 h2 he
    exact ⟨k', by omega, he'⟩

/-- The merge: of a family in parts, the first `n` ranks are those of the parts' first `n` ranks together. -/
theorem merge {σ lam : Type} [Fintype lam] (v : ι → EReal) (p : σ → κ → EReal) (w : lam → EReal) (n : ℕ)
    (hp : ∀ s, Within (p s) v) (hv : ∀ i, ∃ s k, p s k = v i)
    (hw : ∀ l, ∃ s k, rank (p s) k = w l) (hpw : ∀ s k, k < n → ∃ l, w l = rank (p s) k) (j : ℕ) (hj : j < n) :
    rank w j = rank v j := by
  have hwv : Within w v := fun l => by
    obtain ⟨s, k, h⟩ := hw l
    rcases rank_mem (p s) k with h0 | ⟨i, hi⟩
    · exact .inl (h ▸ h0)
    · rcases hp s i with h1 | ⟨x, h1⟩
      · exact .inl (by rw [← h, ← hi, h1])
      · exact .inr ⟨x, by rw [h1, hi, h]⟩
  induction j with
  | zero =>
    refine le_antisymm (sup_mono w v hwv) (Finset.sup_le fun i _ => ?_)
    obtain ⟨s, k, h⟩ := hv i
    obtain ⟨l, hl⟩ := hpw s 0 hj
    calc v i = p s k := h.symm
      _ ≤ rank (p s) 0 := le_sup (p s) k
      _ = w l := hl.symm
      _ ≤ _ := le_sup w l
  | succ j ih =>
    rw [rank_succ, rank_succ, ih (by omega)]
    refine le_antisymm (below_mono w v hwv _) (below_le v _ _ fun i hi => ?_)
    obtain ⟨s, k, h⟩ := hv i
    obtain ⟨k', hk', he⟩ := part_below v (p s) (hp s) j
    obtain ⟨l, hl⟩ := hpw s k' (by omega)
    have h1 : v i ≤ below (p s) (rank v j) := by
      rw [← h]; exact le_below (p s) _ k (by rw [h]; exact hi)
    rcases below_mem (p s) (rank v j) with h2 | ⟨y, h2, h3⟩
    · rw [h2] at h1; exact h1.trans bot_le
    · refine h1.trans ?_
      rw [← he, ← hl]
      exact le_below w _ l (by rw [hl, he, ← h2]; exact h3)

/-- Of a family in descending order whose first entries all differ (or are minus infinity), the ranks are the entries. -/
theorem rank_sorted (n : ℕ) (y : Fin n → EReal) (hy : ∀ a b : Fin n, a ≤ b → y b ≤ y a) (j : ℕ) (hj : j < n)
    (hd : ∀ i (hi : i + 1 ≤ j), y ⟨i + 1, by omega⟩ < y ⟨i, by omega⟩ ∨ y ⟨i + 1, by omega⟩ = ⊥) :
    rank y j = y ⟨j, hj⟩ := by
  induction j with
  | zero =>
    exact le_antisymm (Finset.sup_le fun i _ => hy _ _ (Nat.zero_le _)) (le_sup y _)
  | succ j ih =>
    rw [rank_succ, ih (by omega) fun i hi => hd i (by omega)]
    refine le_antisymm (below_le y _ _ fun i hi => ?_) ?_
    · refine hy _ _ ?_
      show j + 1 ≤ i.val
      by_contra hn
      exact absurd hi (not_lt_of_ge (hy i ⟨j, by omega⟩ (by show i.val ≤ j; omega)))
    · rcases hd j le_rfl with h | h
      · exact le_below y _ _ h
      · rw [h]; exact bot_le

open Classical in
/-- The first of every run of equal entries kept, minus infinity in the place of the others. -/
def firsts {n : ℕ} (y : Fin n → EReal) : Fin n → EReal := fun i =>
  if h : i.val = 0 then y i else if y i < y ⟨i.val - 1, by omega⟩ then y i else ⊥

theorem firsts_within {n : ℕ} (y : Fin n → EReal) : Within (firsts y) y := fun i => by
  unfold firsts
  split
  · exact .inr ⟨i, rfl⟩
  · split
    · exact .inr ⟨i, rfl⟩
    · exact .inl rfl

theorem within_firsts {n : ℕ} (y : Fin n → EReal) (hy : ∀ a b : Fin n, a ≤ b → y b ≤ y a) : Within y (firsts y) := by
  have h : ∀ (i : ℕ) (hi : i < n), ∃ k, firsts y k = y ⟨i, hi⟩ := fun i => by
    induction i with
    | zero => exact fun hi => ⟨⟨0, hi⟩, dif_pos rfl⟩
    | succ i ih =>
      intro hi
      by_cases hl : y ⟨i + 1, hi⟩ < y ⟨i, by omega⟩
      · exact ⟨⟨i + 1, hi⟩, by unfold firsts; rw [dif_neg (Nat.succ_ne_zero i)]; exact if_pos hl⟩
      · obtain ⟨k, hk⟩ := ih (by omega)
        refine ⟨k, hk.trans (le_antisymm (not_lt.mp hl) (hy _ _ ?_))⟩
        show i ≤ i + 1; omega
  exact fun i => .inr (h i.val i.isLt)

/-- Two entries kept are equal only at one place, or minus infinity. -/
theorem firsts_inj {n : ℕ} (y : Fin n → EReal) (hy : ∀ a b : Fin n, a ≤ b → y b ≤ y a) (a b : Fin n) (h : firsts y a = firsts y b)
    (hb : firsts y b ≠ ⊥) : a = b := by
  have key : ∀ a b : Fin n, a.val < b.val → firsts y a ≠ ⊥ → firsts y b ≠ ⊥ → firsts y b < firsts y a := fun a b hab ha hb => by
    have e : ∀ i, firsts y i ≠ ⊥ → firsts y i = y i := fun i hi => by
      unfold firsts at hi ⊢
      split
      · rfl
      · rename_i h0; rw [dif_neg h0] at hi
        split
        · rfl
        · rename_i h1; rw [if_neg h1] at hi; exact absurd rfl hi
    have hlt : y b < y ⟨b.val - 1, by omega⟩ := by
      unfold firsts at hb
      rw [dif_neg (by omega)] at hb
      by_contra hn
      rw [if_neg hn] at hb
      exact hb rfl
    rw [e a ha, e b hb]
    exact lt_of_lt_of_le hlt (hy _ _ (by show a.val ≤ b.val - 1; omega))
  rcases Nat.lt_trichotomy a.val b.val with h' | h' | h'
  · exact absurd h (ne_of_gt (key a b h' (h ▸ hb) hb))
  · exact Fin.ext h'
  · exact absurd h (ne_of_lt (key b a h' hb (h ▸ hb)))

/-- A family in descending order without equal entries but minus infinity has its entries for ranks. -/
theorem rank_sorted_firsts (n : ℕ) (y z : Fin n → EReal) (hy : ∀ a b : Fin n, a ≤ b → y b ≤ y a) (hz : ∀ a b : Fin n, a ≤ b → z b ≤ z a)
    (σ : Fin n → Fin n) (hσ : Function.Bijective σ) (he : ∀ i, z i = firsts y (σ i)) (j : ℕ) (hj : j < n) : z ⟨j, hj⟩ = rank y j := by
  have h1 : rank z j = z ⟨j, hj⟩ := rank_sorted n z hz j hj fun i hi => by
    by_cases hb : z ⟨i + 1, by omega⟩ = ⊥
    · exact .inr hb
    · refine .inl (lt_of_le_of_ne (hz _ _ (by show i ≤ i + 1; omega)) fun heq => ?_)
      have h2 := hσ.1 (firsts_inj y hy _ _ ((he _).symm.trans (heq.symm.trans (he _))) (by rw [← he]; exact hb))
      have h3 : i = i + 1 := congrArg Fin.val h2
      omega
  rw [← h1, rank_congr z (firsts y) (fun i => .inr ⟨σ i, (he i).symm⟩) fun i => by
    obtain ⟨k, hk⟩ := hσ.2 i
    exact .inr ⟨k, by rw [he, hk]⟩]
  exact rank_congr _ _ (firsts_within y) (within_firsts y hy) j

end Cert.Rank

end
-- ==== Proof.Take.lean ====
/-
  Picking columns of a 256 × 4096 array row by row: the positions sorted by the greatest value first, and the values at a
  table of positions.
-/
module

public import proofs.«01_k».proof.Proof.Rank
public import Idealize.ShloMosaic.PureOps.Ideal
public import Idealize.ShloMosaic.PureOps.Ideal.Laws
public import Idealize.ShloMosaic.PureOps.Reduce
public import Idealize.ShloMosaic.Lib.Pointwise.Reduce
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.SortFacts

@[expose] public section

noncomputable section

namespace Cert.Order

open Idealize
open Idealize.ShloMosaic hiding ix1 ix2 ix3
open Idealize.ShloMosaic.ValueIdx
open Cert.Rank

/-- 256 rows of `n` entries. -/
abbrev Rows (n : Nat) : Shape := ⟨2, ![256, n]⟩
/-- The same with a trailing unit axis. -/
abbrev Rows1 (n : Nat) : Shape := ⟨3, ![256, n, 1]⟩

/-! ## Sorting positions -/

/-- Where the `j`-th greatest of `n` values stands: the stable sort of the positions by the negated values. -/
def place {n : Nat} (v : Fin n → EReal) : Fin n → Fin n := sortedFrom fun k k' => decide (-v k < -v k')

theorem place_bijective {n : Nat} (v : Fin n → EReal) : Function.Bijective (place v) :=
  ⟨sortedFrom_injective _, sortedFrom_surjective _⟩

/-- Read at the sorted positions the values come greatest first. -/
theorem place_desc {n : Nat} (v : Fin n → EReal) (a b : Fin n) (h : a ≤ b) : v (place v b) ≤ v (place v a) := by
  rcases h.lt_or_eq with h | rfl
  · have := sortedFrom_noInversion (fun k k' => decide (-v k < -v k')) (fun k k' => decide (-v k < -v k'))
      (fun a b h => by simp only [decide_eq_true_eq, decide_eq_false_iff_not] at h ⊢; exact not_lt.mpr h.le)
      (fun _ _ h => h)
      (fun a b c h h' => by
        simp only [decide_eq_false_iff_not, not_lt] at h h' ⊢; exact h'.trans h) a b h
    simp only [decide_eq_false_iff_not, not_lt] at this
    exact EReal.neg_le_neg_iff.mp this
  · exact le_rfl

/-- A sorted row has the ranks of the row. -/
theorem rank_place {n : Nat} (v : Fin n → EReal) (j : ℕ) : rank (fun q => v (place v q)) j = rank v j :=
  rank_congr _ _ (fun i => Or.inr ⟨place v i, rfl⟩)
    (fun i => Or.inr ((place_bijective v).2 i |>.imp fun _ h => congrArg v h)) j

/-- The table of positions a two-operand sort of the negated rows with their column numbers leaves. -/
theorem sort_apply {n : Nat} (cmp : EReal × BitVec 32 → EReal × BitVec 32 → BitVec 1)
    (hc : ∀ p q, cmp p q = BitVec.ofBool (decide (p.1 < q.1))) (x : FVec Ideal (Rows n) .f32) (r : Fin 256) (j : Fin n) :
    (Host.sort2 (Rows n) 1 cmp (Host.negf x) (iotaInDim (Rows n) 32 1)).2 (ix2 r j)
      = BitVec.ofNat 32 (place (fun q => x (ix2 r q)) j).val := by
  have hal : ∀ k : Fin n, (ix2 r j : (Rows n).Idx).along (1 : Fin 2) k = ix2 r k := fun k => by
    funext a; match a with
    | ⟨0, _⟩ => rfl
    | ⟨1, _⟩ => rfl
  have hb : (fun k k' : Fin n => cmp (Host.negf x ((ix2 r j : (Rows n).Idx).along (1 : Fin 2) k),
        iotaInDim (Rows n) 32 1 ((ix2 r j : (Rows n).Idx).along (1 : Fin 2) k))
        (Host.negf x ((ix2 r j : (Rows n).Idx).along (1 : Fin 2) k'),
        iotaInDim (Rows n) 32 1 ((ix2 r j : (Rows n).Idx).along (1 : Fin 2) k')) == 1#1)
      = fun k k' => decide (-(x (ix2 r k) : EReal) < -(x (ix2 r k') : EReal)) := by
    funext k k'
    rw [hc, hal, hal]
    show (BitVec.ofBool (decide (-(x (ix2 r k) : EReal) < -(x (ix2 r k') : EReal))) == 1#1) = _
    cases decide (-(x (ix2 r k) : EReal) < -(x (ix2 r k') : EReal)) <;> rfl
  show BitVec.ofNat 32 (sortedFrom (fun k k' : Fin n => cmp (Host.negf x ((ix2 r j : (Rows n).Idx).along (1 : Fin 2) k),
        iotaInDim (Rows n) 32 1 ((ix2 r j : (Rows n).Idx).along (1 : Fin 2) k))
        (Host.negf x ((ix2 r j : (Rows n).Idx).along (1 : Fin 2) k'),
        iotaInDim (Rows n) 32 1 ((ix2 r j : (Rows n).Idx).along (1 : Fin 2) k')) == 1#1) j).val = _
  rw [hb]
  rfl

/-! ## Reading at a table of positions -/

/-- The dimensions of a lookup that reads, in each row, the columns a table of the same rows names. -/
def lookup (K : Nat) (wf : GatherDims.WF (Rows 4096) (Rows1 K) (Rows K) [] [1] [0] [1] [0] 2 ![1, 1]) :
    GatherDims (Rows 4096) (Rows1 K) (Rows K) :=
  ⟨[], [1], [0], [0], [1], 2, ![1, 1], wf⟩

/-- The lookup reads its own row, at the named column held to `0 … 4095`. -/
theorem lookup_apply {α : Type} (K : Nat) (wf : GatherDims.WF (Rows 4096) (Rows1 K) (Rows K) [] [1] [0] [1] [0] 2 ![1, 1])
    (x : (Rows 4096).Idx → α) (t : IVec (Rows1 K) 32) (r : Fin 256) (j : Fin K) (p : Fin 4096)
    (hp : (t (ix3 r j (0 : Fin 1))).toInt.toNat = p.val) : Host.gather (lookup K wf) x t (ix2 r j) = x (ix2 r p) := by
  have hrow : (1 : Fin 2) ∉ (lookup K wf).operandBatchingDims := fun h => absurd (List.mem_singleton.mp h) (by decide)
  have hin : (lookup K wf).siIdx (ix2 r j) ⟨List.idxOf (1 : Fin 2) (lookup K wf).startIndexMap,
      List.idxOf_lt_length_iff.2 (List.mem_singleton.mpr rfl)⟩ = ix3 r j (0 : Fin 1) := by
    funext b
    match b with
    | ⟨0, _⟩ => rfl
    | ⟨1, _⟩ => rfl
    | ⟨2, _⟩ => rfl
  have hst : (lookup K wf).start (ix2 r j) t (1 : Fin 2) = p.val := by
    unfold GatherDims.start
    rw [dif_pos (show (1 : Fin 2) ∈ (lookup K wf).startIndexMap from List.mem_singleton.mpr rfl), hin, hp]
    exact min_eq_left (Nat.le_of_lt_succ p.isLt)
  refine congrArg x (funext fun a => Fin.ext ?_)
  show (lookup K wf).start (ix2 r j) t a + (lookup K wf).batchCoord (ix2 r j) a + (lookup K wf).offCoord (ix2 r j) a = _
  match a with
  | ⟨0, _⟩ =>
    have hs := (lookup K wf).start_batching (ix2 r j) t (0 : Fin 2) (List.mem_singleton.mpr rfl)
    have ho := (lookup K wf).offCoord_eq_zero (ix2 r j) (0 : Fin 2)
      fun h => ((GatherDims.mem_sKept _ _).mp h).2 (List.mem_singleton.mpr rfl)
    have hb : (lookup K wf).batchCoord (ix2 r j) (0 : Fin 2) = r.val := by
      unfold GatherDims.batchCoord
      rw [dif_pos (show (0 : Fin 2) ∈ (lookup K wf).operandBatchingDims from List.mem_singleton.mpr rfl)]
      rfl
    exact (congrArg₂ (· + ·) (congrArg₂ (· + ·) hs hb) ho).trans (by simp)
  | ⟨1, _⟩ =>
    have hb := (lookup K wf).batchCoord_eq_zero (ix2 r j) (1 : Fin 2) hrow
    have ho := (lookup K wf).offCoord_eq_zero (ix2 r j) (1 : Fin 2)
      fun h => ((GatherDims.mem_sKept _ _).mp h).1 (List.mem_singleton.mpr rfl)
    exact (congrArg₂ (· + ·) (congrArg₂ (· + ·) hst hb) ho).trans (by simp)

/-- A column number as a word: in range, not negative, and read back as itself. -/
theorem word_facts (p : Fin 4096) :
    (BitVec.ofNat 32 p.val).slt 0#32 = false ∧ (0#32).sle (BitVec.ofNat 32 p.val) = true
      ∧ (BitVec.ofNat 32 p.val).sle 4095#32 = true ∧ (BitVec.ofNat 32 p.val).toInt.toNat = p.val := by
  have h := p.isLt
  have hn : (BitVec.ofNat 32 p.val).toNat = p.val := by rw [BitVec.toNat_ofNat]; exact Nat.mod_eq_of_lt (by omega)
  have hi : (BitVec.ofNat 32 p.val).toInt = (p.val : Int) := by
    rw [BitVec.toInt_eq_toNat_of_lt (by rw [hn]; omega), hn]
  refine ⟨?_, ?_, ?_, ?_⟩
  · rw [BitVec.slt, hi]; simp
  · rw [BitVec.sle, hi]; simp
  · rw [BitVec.sle, hi]; simp; omega
  · rw [hi]; simp

section take
variable {K : Nat} (wf : GatherDims.WF (Rows 4096) (Rows1 K) (Rows K) [] [1] [0] [1] [0] 2 ![1, 1])
  (hcast : (Rows K).ShapeCasts (Rows1 K)) (hred : (Rows1 K).ReducesTo [2] (Rows K)) (hpos : 0 < (⟨0, ![]⟩ : Shape).numel)
  (zero wide : IVec (Rows K) 32) (low high : IVec (Rows1 K) 32) (hole : FVec Ideal (Rows K) .f32)

/-- A table of positions with the negative ones counted from the end, as a lookup takes it. -/
def table (t : IVec (Rows K) 32) : IVec (Rows1 K) 32 := shapeCast (Rows1 K) (select (cmpi .slt t zero) (addi t wide) t) hcast

/-- The values at a table of positions, with a hole where a position is out of range. -/
def taken (x : FVec Ideal (Rows 4096) .f32) (t : IVec (Rows K) 32) : FVec Ideal (Rows K) .f32 :=
  select (Host.reduce IntOp.andi (andi (cmpi .sge (table hcast zero wide t) low) (cmpi .sle (table hcast zero wide t) high))
    (constantI ⟨0, ![]⟩ 1 1#1) hred hpos) (Host.gather (lookup K wf) x (table hcast zero wide t)) hole

/-- Where the table holds a column's number, the value taken is the row's at that column. -/
theorem taken_apply (hz : ∀ i, zero i = 0#32) (hl : ∀ i, low i = 0#32) (hh : ∀ i, high i = 4095#32)
    (x : FVec Ideal (Rows 4096) .f32) (t : IVec (Rows K) 32) (r : Fin 256) (j : Fin K) (p : Fin 4096)
    (ht : t (ix2 r j) = BitVec.ofNat 32 p.val) :
    taken wf hcast hred hpos zero wide low high hole x t (ix2 r j) = x (ix2 r p) := by
  obtain ⟨h1, h2, h3, h4⟩ := word_facts p
  have htab : table hcast zero wide t (ix3 r j (0 : Fin 1)) = BitVec.ofNat 32 p.val := by
    have : table hcast zero wide t (ix3 r j (0 : Fin 1)) = select (cmpi .slt t zero) (addi t wide) t (ix2 r j) := by
      refine shapeCast_apply _ hcast _ _ ?_
      rw [Shape.rowMajor_val_two, Shape.rowMajor_val_three]
      show r.val * K + j.val = (r.val * K + j.val) * 1 + 0
      omega
    rw [this, select_apply]
    show Scalar.select (BitVec.ofBool ((t (ix2 r j)).slt (zero (ix2 r j)))) _ _ = _
    rw [hz, ht, h1]
    exact select_zero _ _
  have hone : Host.reduce IntOp.andi (andi (cmpi .sge (table hcast zero wide t) low) (cmpi .sle (table hcast zero wide t) high))
      (constantI ⟨0, ![]⟩ 1 1#1) hred hpos (ix2 r j) = 1#1 := by
    refine (Host.reduce_eq_fold _ _ _ _ _ _).trans ?_
    refine (Shape.ReducesTo.fold_fiber_r3_a2 hred _ _ _ _).trans ?_
    rw [show (Finset.univ : Finset (Fin 1)) = {0} from rfl, Finset.fold_singleton]
    show (BitVec.ofBool ((low (ix3 r j (0 : Fin 1))).sle (table hcast zero wide t (ix3 r j (0 : Fin 1))))
      &&& BitVec.ofBool ((table hcast zero wide t (ix3 r j (0 : Fin 1))).sle (high (ix3 r j (0 : Fin 1))))) &&& 1#1 = 1#1
    rw [hl, hh, htab, h2, h3]
    rfl
  unfold taken
  rw [select_apply, hone, select_one]
  exact lookup_apply K wf x _ r j p (by rw [htab]; exact h4)

end take

end Cert.Order
-- ==== Proof.Heads.lean ====
/-
  The values of a row taken greatest first, equal ones one after another; and the mask that marks the entries down to which
  all of them differ.
-/
module

public import proofs.«01_k».proof.Proof.Take
public import proofs.«01_k».proof.Proof.Gen.On_untied
public import proofs.«01_k».proof.Proof.Gen.ReferenceIdeal.Run
public import proofs.«01_k».proof.Proof.Gen.DistinctIdeal.Run

@[expose] public section

noncomputable section

namespace Cert.Order

open Idealize
open Idealize.ShloMosaic hiding ix1 ix2 ix3
open Idealize.ShloMosaic.ValueIdx
open Cert.Rank

/-- The order the sort compares by: zero and its negative are one, and no extended real is not a number. -/
theorem word_lt (a b : EReal) :
    FloatOps.cmpfTotal (F := Ideal) (φ := .f32) .lt
      (Scalar.select (FloatOps.cmpf (F := Ideal) (φ := .f32) .une a a) (FloatOps.ofBits (F := Ideal) .f32 0x7FC00000#32)
        (Scalar.select (FloatOps.cmpf (F := Ideal) (φ := .f32) .oeq a (FloatOps.ofBits (F := Ideal) .f32 0x00000000#32))
          (FloatOps.ofBits (F := Ideal) .f32 0x00000000#32) a))
      (Scalar.select (FloatOps.cmpf (F := Ideal) (φ := .f32) .une b b) (FloatOps.ofBits (F := Ideal) .f32 0x7FC00000#32)
        (Scalar.select (FloatOps.cmpf (F := Ideal) (φ := .f32) .oeq b (FloatOps.ofBits (F := Ideal) .f32 0x00000000#32))
          (FloatOps.ofBits (F := Ideal) .f32 0x00000000#32) b))
      = BitVec.ofBool (decide (a < b)) := by
  have key : ∀ a : EReal, Scalar.select (FloatOps.cmpf (F := Ideal) (φ := .f32) .une a a) (FloatOps.ofBits (F := Ideal) .f32 0x7FC00000#32)
        (Scalar.select (FloatOps.cmpf (F := Ideal) (φ := .f32) .oeq a (FloatOps.ofBits (F := Ideal) .f32 0x00000000#32))
          (FloatOps.ofBits (F := Ideal) .f32 0x00000000#32) a) = a := fun a => by
    have h1 : FloatOps.cmpf (F := Ideal) (φ := .f32) .une a a = 0#1 := by
      show BitVec.ofBool (decide (a ≠ a)) = 0#1
      simp
    rw [h1, select_zero]
    by_cases h : a = FloatOps.ofBits (F := Ideal) .f32 0x00000000#32
    · have h2 : FloatOps.cmpf (F := Ideal) (φ := .f32) .oeq a (FloatOps.ofBits (F := Ideal) .f32 0x00000000#32) = 1#1 := by
        show BitVec.ofBool (decide (a = _)) = 1#1
        rw [decide_eq_true h]; rfl
      rw [h2, select_one]; exact h.symm
    · have h2 : FloatOps.cmpf (F := Ideal) (φ := .f32) .oeq a (FloatOps.ofBits (F := Ideal) .f32 0x00000000#32) = 0#1 := by
        show BitVec.ofBool (decide (a = _)) = 0#1
        rw [decide_eq_false h]; rfl
      rw [h2, select_zero]
  rw [key, key]
  rfl

theorem order_reference (p q : EReal × BitVec 32) :
    Cert.ReferenceIdeal.comparator_f32_i32_d1 (F := Ideal) p q = BitVec.ofBool (decide (p.1 < q.1)) := word_lt p.1 q.1
theorem order_distinct (p q : EReal × BitVec 32) :
    Cert.DistinctIdeal.comparator_f32_i32_d1 (F := Ideal) p q = BitVec.ofBool (decide (p.1 < q.1)) := word_lt p.1 q.1
theorem order_untied (p q : EReal × BitVec 32) :
    Cert.On_untied.comparator_f32_i32_d1 (F := Ideal) p q = BitVec.ofBool (decide (p.1 < q.1)) := word_lt p.1 q.1

/-- A row's values, greatest first. -/
def heads (x : (Rows 4096).Idx → EReal) (r : Fin 256) (j : Fin 4096) : EReal :=
  x (ix2 r (place (fun q => x (ix2 r q)) j))

theorem heads_desc (x : (Rows 4096).Idx → EReal) (r : Fin 256) (a b : Fin 4096) (h : a ≤ b) : heads x r b ≤ heads x r a :=
  place_desc (fun q => x (ix2 r q)) a b h

theorem rank_heads (x : (Rows 4096).Idx → EReal) (r : Fin 256) (j : ℕ) : rank (heads x r) j = rank (fun q => x (ix2 r q)) j :=
  rank_place (fun q => x (ix2 r q)) j

/-- The first eight columns of an array. -/
theorem first_columns {α : Type} {n : Nat} (hn : 8 ≤ n) (t : (Rows n).Idx → α) (hs : (Rows n).Slices ![0, 0] (Rows 8)) (r : Fin 256)
    (j : Fin 8) : extractStridedSlice (Rows 8) ![0, 0] t hs (ix2 r j) = t (ix2 r ⟨j.val, by omega⟩) :=
  extractStridedSlice_apply ![0, 0] t hs _ _ fun a => by
    match a with
    | ⟨0, _⟩ => exact (Nat.zero_add _).symm
    | ⟨1, _⟩ => exact (Nat.zero_add _).symm

section heads
variable (cmp : EReal × BitVec 32 → EReal × BitVec 32 → BitVec 1) (hc : ∀ p q, cmp p q = BitVec.ofBool (decide (p.1 < q.1)))
include hc

/-- The values taken at the first eight sorted positions. -/
theorem eight_apply (wf : GatherDims.WF (Rows 4096) (Rows1 8) (Rows 8) [] [1] [0] [1] [0] 2 ![1, 1])
    (hcast : (Rows 8).ShapeCasts (Rows1 8)) (hred : (Rows1 8).ReducesTo [2] (Rows 8)) (hpos : 0 < (⟨0, ![]⟩ : Shape).numel)
    (hs : (Rows 4096).Slices ![0, 0] (Rows 8))
    (zero wide : IVec (Rows 8) 32) (low high : IVec (Rows1 8) 32) (hole : FVec Ideal (Rows 8) .f32)
    (hz : ∀ i, zero i = 0#32) (hl : ∀ i, low i = 0#32) (hh : ∀ i, high i = 4095#32)
    (x : FVec Ideal (Rows 4096) .f32) (r : Fin 256) (j : Fin 8) :
    taken wf hcast hred hpos zero wide low high hole x
      (extractStridedSlice (Rows 8) ![0, 0] (Host.sort2 (Rows 4096) 1 cmp (Host.negf x) (iotaInDim (Rows 4096) 32 1)).2 hs) (ix2 r j)
      = heads x r ⟨j.val, by omega⟩ := by
  refine taken_apply wf hcast hred hpos zero wide low high hole hz hl hh x _ r j
    (place (fun q => x (ix2 r q)) (⟨j.val, by omega⟩ : Fin 4096)) ?_
  exact (first_columns (by decide) _ hs r j).trans (sort_apply cmp hc x r (⟨j.val, by omega⟩ : Fin 4096))

/-- The values taken at all the sorted positions. -/
theorem all_apply (wf : GatherDims.WF (Rows 4096) (Rows1 4096) (Rows 4096) [] [1] [0] [1] [0] 2 ![1, 1])
    (hcast : (Rows 4096).ShapeCasts (Rows1 4096)) (hred : (Rows1 4096).ReducesTo [2] (Rows 4096)) (hpos : 0 < (⟨0, ![]⟩ : Shape).numel)
    (zero wide : IVec (Rows 4096) 32) (low high : IVec (Rows1 4096) 32) (hole : FVec Ideal (Rows 4096) .f32)
    (hz : ∀ i, zero i = 0#32) (hl : ∀ i, low i = 0#32) (hh : ∀ i, high i = 4095#32)
    (x : FVec Ideal (Rows 4096) .f32) (r : Fin 256) (j : Fin 4096) :
    taken wf hcast hred hpos zero wide low high hole x
      (Host.sort2 (Rows 4096) 1 cmp (Host.negf x) (iotaInDim (Rows 4096) 32 1)).2 (ix2 r j) = heads x r j :=
  taken_apply wf hcast hred hpos zero wide low high hole hz hl hh x _ r j _ (sort_apply cmp hc x r j)

end heads

/-! ## The mask -/

theorem and_one (a b : BitVec 1) (h : IntOp.andi a b = 1#1) : a = 1#1 ∧ b = 1#1 := by revert a b; decide
theorem or_one (a b : BitVec 1) (h : IntOp.ori a b = 1#1) : a = 1#1 ∨ b = 1#1 := by revert a b; decide
theorem of_one (b : Bool) (h : BitVec.ofBool b = 1#1) : b = true := by revert b; decide

/-- Bits whose conjunction is set are all set. -/
theorem all_set {n : Nat} (f : Fin n → BitVec 1) (h : (Finset.univ : Finset (Fin n)).fold IntOp.andi 1#1 f = 1#1) (k : Fin n) : f k = 1#1 := by
  have key : ∀ s : Finset (Fin n), s.fold IntOp.andi 1#1 f = 1#1 → ∀ k ∈ s, f k = 1#1 := fun s => by
    induction s using Finset.induction_on with
    | empty => exact fun _ k hk => absurd hk (Finset.notMem_empty k)
    | insert a s ha ih =>
      intro h k hk
      rw [Finset.fold_insert ha] at h
      obtain ⟨h1, h2⟩ := and_one _ _ h
      rcases Finset.mem_insert.mp hk with rfl | hk
      · exact h1
      · exact ih h2 k hk
  exact key _ h k (Finset.mem_univ k)

section mask
open Cert.On_untied Cert.On_untied.Facts

/-- Of eight values in a row, which differ from the one before (or are minus infinity), the first counted among them. -/
def fresh (y : FVec Ideal (Rows 8) .f32) : IVec (Rows 8) 1 :=
  concatenate (Rows 8) 1 [⟨Rows 1, broadcastInDim (Rows 1) ![] bcast_S_S256x1 (constantI S_ 1 1#1)⟩,
    ⟨Rows 7, ori (cmpf .olt (extractStridedSlice (Rows 7) ![0, 1] y slices_S256x8_S256x7_0_1)
        (extractStridedSlice (Rows 7) ![0, 0] y slices_S256x8_S256x7_0_0))
      (cmpf .oeq (extractStridedSlice (Rows 7) ![0, 1] y slices_S256x8_S256x7_0_1)
        (broadcastInDim (Rows 7) ![] bcast_S_S256x7 (constant S_ .f32 0xFF800000#32)))⟩] concatenates_S256x1_S256x7_S256x8_d1

/-- The entries such that they and all before them are fresh. -/
def clear (y : FVec Ideal (Rows 8) .f32) : IVec (Rows 8) 1 :=
  Host.reduce IntOp.andi (ori (broadcastInDim S256x8x8 ![0, 1, 2] bcast_S256x1x8_S256x8x8_0_1_2
      (broadcastInDim S256x1x8 ![0, 2] bcast_S256x8_S256x1x8_0_2 (fresh y)))
    (cmpi .sgt (iotaInDim S256x8x8 32 2) (iotaInDim S256x8x8 32 1))) (constantI S_ 1 1#1) reducesTo_S256x8x8_S256x8_d2 h_S_

theorem fresh_apply (y : FVec Ideal (Rows 8) .f32) (r : Fin 256) (i : ℕ) (hi : i + 1 < 8) (h : fresh y (ix2 r ⟨i + 1, hi⟩) = 1#1) :
    (y (ix2 r ⟨i + 1, hi⟩) : EReal) < y (ix2 r ⟨i, by omega⟩) ∨ (y (ix2 r ⟨i + 1, hi⟩) : EReal) = ⊥ := by
  have hl : ∀ hs, extractStridedSlice (Rows 7) ![0, 1] y hs (ix2 r (⟨i, by omega⟩ : Fin 7)) = y (ix2 r ⟨i + 1, hi⟩) := fun hs =>
    extractStridedSlice_apply ![0, 1] y hs _ _ fun a => by
      match a with
      | ⟨0, _⟩ => exact (Nat.zero_add _).symm
      | ⟨1, _⟩ => exact Nat.add_comm i 1
  have hr : ∀ hs, extractStridedSlice (Rows 7) ![0, 0] y hs (ix2 r (⟨i, by omega⟩ : Fin 7)) = y (ix2 r ⟨i, by omega⟩) := fun hs =>
    extractStridedSlice_apply ![0, 0] y hs _ _ fun a => by
      match a with
      | ⟨0, _⟩ => exact (Nat.zero_add _).symm
      | ⟨1, _⟩ => exact (Nat.zero_add _).symm
  unfold fresh at h
  rw [concatenate_pair_apply_right 1 _ _ _ (ix2 r ⟨i + 1, hi⟩) (by decide) (by decide) (ix2 r (⟨i, by omega⟩ : Fin 7) : (Rows 7).Idx)
    (fun b hb => by
      match b with
      | ⟨0, _⟩ => rfl
      | ⟨1, _⟩ => exact absurd rfl hb)
    rfl] at h
  rcases or_one _ _ h with h | h
  · left
    rw [cmpf_apply, hl, hr] at h
    exact of_decide_eq_true (of_one _ h)
  · right
    rw [cmpf_apply, hl] at h
    have h2 := of_decide_eq_true (of_one _ h)
    exact h2.trans (by show Ideal.ofBits .f32 0xFF800000#32 = ⊥; simp [Ideal.ofBits, Ideal.ieee])

theorem clear_apply (y : FVec Ideal (Rows 8) .f32) (r : Fin 256) (j : Fin 8) (h : clear y (ix2 r j) = 1#1) (i : ℕ) (hi : i + 1 ≤ j.val) :
    (y (ix2 r ⟨i + 1, by omega⟩) : EReal) < y (ix2 r ⟨i, by omega⟩) ∨ (y (ix2 r ⟨i + 1, by omega⟩) : EReal) = ⊥ := by
  have h0 := (((Host.reduce_eq_fold _ _ _ _ _ _).trans (Shape.ReducesTo.fold_fiber_r3_a2 reducesTo_S256x8x8_S256x8_d2 _ _ _ _)).symm.trans h)
  have h1 := all_set _ h0 (⟨i + 1, by omega⟩ : Fin 8)
  refine fresh_apply y r i (by omega) ?_
  rcases or_one _ _ h1 with h2 | h2
  · refine Eq.trans (Eq.symm ?_) h2
    refine (broadcastInDim_apply ![0, 1, 2] bcast_S256x1x8_S256x8x8_0_1_2 _ _ (ix3 r (0 : Fin 1) (⟨i + 1, by omega⟩ : Fin 8)) ?_).trans
      (broadcastInDim_apply ![0, 2] bcast_S256x8_S256x1x8_0_2 _ _ (ix2 r (⟨i + 1, by omega⟩ : Fin 8)) ?_)
    · intro a
      match a with
      | ⟨0, _⟩ => rfl
      | ⟨1, _⟩ => rfl
      | ⟨2, _⟩ => rfl
    · intro a
      match a with
      | ⟨0, _⟩ => rfl
      | ⟨1, _⟩ => rfl
  · exfalso
    have hw : ∀ (a b : Fin 8), a.val ≤ b.val → IntOp.cmpi .sgt (BitVec.ofNat 32 a.val) (BitVec.ofNat 32 b.val) ≠ 1#1 := by decide
    exact hw ⟨i + 1, by omega⟩ j hi h2

end mask

end Cert.Order
-- ==== Proof.Rounds.lean ====
/-
  One round of the block's search and eight of them, read at the ideal numbers. A round takes the greatest value of each
  row, writes it to one column of the results, and strikes every copy of it out of the row.
-/
module

public import proofs.«01_k».proof.Proof.Schedule
public import proofs.«01_k».proof.Proof.Rank
public import Idealize.ShloMosaic.PureOps.Ideal
public import Idealize.ShloMosaic.PureOps.Ideal.Laws
public import Idealize.ShloMosaic.PureOps.Reduce
public import Idealize.ShloMosaic.Lib.Pointwise.Reduce
public import Idealize.ShloMosaic.Lib.Pipeline.Value
public import Idealize.ShloMosaic.Lib.ValueIdx
public import Idealize.ShloMosaic.Lib.ValueLayout
public import Idealize.ShloMosaic.Lib.ValueLayoutCasts

@[expose] public section

noncomputable section

namespace Cert.KernelIdeal.Top

open Idealize
open Idealize.ShloMosaic hiding ix1 ix2 ix3
open Idealize.ShloMosaic.ValueIdx
open Cert.KernelIdeal Cert.KernelIdeal.Gen Cert.Rank

/-- The shape of a block of 256 rows of `n` values. -/
abbrev Blk (n : Nat) : Shape := ⟨2, ![256, n]⟩

/-- Row `r` of a block. -/
abbrev rowOf {n : Nat} {φ : FTy} (w : FVec Ideal (Blk n) φ) (r : Fin 256) : Fin n → EReal := fun k => w (ix2 r k)

section rounds
variable {n : Nat} (hr : (Blk n).Reduces [1] S256) (hb : S256x1.Broadcasts (Blk n))

/-- The greatest value of each row, in one column. -/
def peak (w : FVec Ideal (Blk n) .bf16) : FVec Ideal S256x1 .bf16 :=
  shapeCast S256x1 (multiReduction .maximumf [1] S256 w 0xFF80#16 hr (.inr rfl) rfl) shapeCasts_S256_S256x1

/-- The block with every copy of its rows' greatest values struck out. -/
def next (w : FVec Ideal (Blk n) .bf16) : FVec Ideal (Blk n) .bf16 :=
  select (cmpf .oeq w (broadcastTo (Blk n) (peak hr w) hb))
    (broadcast (Blk n) (Scalar.truncf .bf16 bitsLt_bf16_f32 (Scalar.ofBits (F := Ideal) .f32 0xFF800000#32))) w

/-- The block after `j` rounds. -/
def works (w : FVec Ideal (Blk n) .bf16) : Nat → FVec Ideal (Blk n) .bf16
  | 0 => w
  | j + 1 => next hr hb (works w j)

/-- The results after `j` rounds. -/
def fill (w : FVec Ideal (Blk n) .bf16) : Nat → FVec Ideal S256x8 .f32
  | 0 => broadcast S256x8 (Scalar.ofBits (F := Ideal) .f32 0xFF800000#32)
  | j + 1 => select (cmpi .eq cols (broadcast S256x8 (BitVec.ofNat 32 j)))
      (broadcastTo S256x8 (shapeCast S256x1 (extf .f32 (peak hr (works hr hb w j)) bitsLt_bf16_f32) shapeCasts_S256x1_S256x1)
        broadcasts_S256x1_S256x8) (fill w j)

/-- The word of minus infinity denotes the least ideal number. -/
theorem neg_word : Ideal.ofBits .bf16 0xFF80#16 = (⊥ : EReal) := by simp [Ideal.ofBits, Ideal.ieee]

/-- The same for the wider word. -/
theorem neg_word32 : Ideal.ofBits .f32 0xFF800000#32 = (⊥ : EReal) := by simp [Ideal.ofBits, Ideal.ieee]

/-- The greatest value of a row is the supremum of the row. -/
theorem peak_apply (w : FVec Ideal (Blk n) .bf16) (r : Fin 256) (u : Fin 1) :
    peak hr w (ix2 r u) = Finset.univ.sup (rowOf w r) := by
  unfold peak
  rw [shapeCast_a_a1_apply]
  haveI : Std.Commutative (FloatOps.maximumf (F := Ideal) (φ := .bf16)) := ⟨max_comm⟩
  haveI : Std.Associative (FloatOps.maximumf (F := Ideal) (φ := .bf16)) := ⟨max_assoc⟩
  refine (multiReduction_maximumf_eq_fold w 0xFF80#16 hr (.inr rfl) rfl (ix1 r)).trans ?_
  rw [Shape.Reduces.fold_fiber_r2_a1 hr, show (FloatOps.ofBits (F := Ideal) .bf16 0xFF80#16) = (⊥ : EReal) from neg_word]
  rfl

/-- A round strikes the row. -/
theorem next_apply (w : FVec Ideal (Blk n) .bf16) (r : Fin 256) :
    rowOf (next hr hb w) r = strike (rowOf w r) := by
  funext k
  show next hr hb w (ix2 r k) = _
  unfold next
  rw [select_apply, cmpf_apply, broadcastTo_apply (peak hr w) hb (ix2 r k) (ix2 r (0 : Fin 1))
    (fun a => by match a with | ⟨0, _⟩ => rfl | ⟨1, _⟩ => rfl), peak_apply]
  unfold strike
  by_cases h : w (ix2 r k) = Finset.univ.sup (rowOf w r)
  · rw [if_pos h]
    rw [show FloatOps.cmpf (F := Ideal) .oeq (w (ix2 r k)) (Finset.univ.sup (rowOf w r)) = 1#1 from by
      show BitVec.ofBool (decide _) = _
      rw [decide_eq_true h]; rfl]
    rw [select_one]
    exact neg_word32
  · rw [if_neg h]
    rw [show FloatOps.cmpf (F := Ideal) .oeq (w (ix2 r k)) (Finset.univ.sup (rowOf w r)) = 0#1 from by
      show BitVec.ofBool (decide _) = _
      rw [decide_eq_false h]; rfl]
    rw [select_zero]

/-- After `j` rounds the row is struck `j` times. -/
theorem works_apply (w : FVec Ideal (Blk n) .bf16) (r : Fin 256) (j : Nat) :
    rowOf (works hr hb w j) r = struck (rowOf w r) j := by
  induction j with
  | zero => rfl
  | succ j ih =>
    show rowOf (next hr hb (works hr hb w j)) r = _
    rw [next_apply, ih]
    rfl

/-- Round `j` writes column `j` and leaves the others. -/
theorem fill_succ (w : FVec Ideal (Blk n) .bf16) (r : Fin 256) (c : Fin 8) (j : Nat) (hj : j < 8) :
    fill hr hb w (j + 1) (ix2 r c) = if c.val = j then rank (rowOf w r) j else fill hr hb w j (ix2 r c) := by
  show select _ _ _ _ = _
  rw [select_apply, shapeCast_self]
  show Scalar.select (IntOp.cmpi .eq (cols (ix2 r c)) (broadcast S256x8 (BitVec.ofNat 32 j) (ix2 r c))) _ _ = _
  rw [broadcastTo_apply _ broadcasts_S256x1_S256x8 (ix2 r c) (ix2 r (0 : Fin 1))
    (fun a => by match a with | ⟨0, _⟩ => rfl | ⟨1, _⟩ => rfl)]
  have hc : cols (ix2 r c) = BitVec.ofNat 32 c.val := iota_single_apply .tc S256x8 32 1 iota_S256x8_d1_w32 (ix2 r c)
  rw [hc, show broadcast S256x8 (BitVec.ofNat 32 j) (ix2 r c) = BitVec.ofNat 32 j from rfl]
  by_cases h : c.val = j
  · rw [if_pos h, show IntOp.cmpi .eq (BitVec.ofNat 32 c.val) (BitVec.ofNat 32 j) = 1#1 from by rw [h]; simp [IntOp.cmpi]]
    rw [select_one]
    show peak hr (works hr hb w j) (ix2 r 0) = _
    rw [peak_apply, works_apply]
    rfl
  · rw [if_neg h, show IntOp.cmpi .eq (BitVec.ofNat 32 c.val) (BitVec.ofNat 32 j) = 0#1 from by
      have hne : BitVec.ofNat 32 c.val ≠ BitVec.ofNat 32 j := fun e => h (by
        have := congrArg BitVec.toNat e
        rw [BitVec.toNat_ofNat, BitVec.toNat_ofNat] at this
        have := c.isLt
        omega)
      show BitVec.ofBool (BitVec.ofNat 32 c.val == BitVec.ofNat 32 j) = 0#1
      rw [beq_eq_false_iff_ne.mpr hne]
      rfl]
    rw [select_zero]

/-- After eight rounds column `c` holds the row's value of rank `c`. -/
theorem fill_apply (w : FVec Ideal (Blk n) .bf16) (r : Fin 256) (c : Fin 8) :
    fill hr hb w 8 (ix2 r c) = rank (rowOf w r) c.val := by
  have key : ∀ j, j ≤ 8 → c.val < j → fill hr hb w j (ix2 r c) = rank (rowOf w r) c.val := by
    intro j
    induction j with
    | zero => intro _ h; exact absurd h (Nat.not_lt_zero _)
    | succ j ih =>
      intro h8 hlt
      rw [fill_succ hr hb w r c j (by omega)]
      by_cases h : c.val = j
      · rw [if_pos h, h]
      · rw [if_neg h]; exact ih (by omega) (by omega)
  exact key 8 le_rfl c.isLt

end rounds

/-- The block's candidates are eight rounds on the block. -/
theorem loc8_fill (X : Vec Ideal S256x1024 .bf16) :
    loc8 X = truncf .bf16 (fill (n := 1024) reduces_S256x1024_S256 broadcasts_S256x1_S256x1024 (k0_pay2 X) 8) bitsLt_bf16_f32 := rfl

/-- The results are eight rounds on the four gathered blocks side by side. -/
theorem top8_fill (a b c d : Vec Ideal S1x256x8 .bf16) :
    top8 a b c d = fill (n := 32) reduces_S256x32_S256 broadcasts_S256x1_S256x32 (k0_pay18 (k0_pay17 a) b c d) 8 := rfl

/-- Column `c` of the candidates holds the block's row's value of rank `c`. -/
theorem loc8_apply (X : Vec Ideal S256x1024 .bf16) (r : Fin 256) (c : Fin 8) :
    loc8 X (ix2 r c) = rank (rowOf (n := 1024) (φ := .bf16) X r) c.val := by
  rw [loc8_fill]
  show fill _ _ _ 8 (ix2 r c) = _
  rw [fill_apply]
  rw [show k0_pay2 X = X from shapeCast_self X _]

/-- Column `c` of the results holds the gathered row's value of rank `c`. -/
theorem top8_apply (a b c d : Vec Ideal S1x256x8 .bf16) (r : Fin 256) (k : Fin 8) :
    top8 a b c d (ix2 r k) = rank (rowOf (n := 32) (k0_pay18 (k0_pay17 a) b c d) r) k.val := by
  rw [top8_fill, fill_apply]

end Cert.KernelIdeal.Top
-- ==== Proof.Merged.lean ====
/-
  What a device's result holds: the gathered candidates of the four members of a group, each from its own quarter of the
  columns, give every row's values of the first eight ranks over all the columns.
-/
module

public import proofs.«01_k».proof.Proof.Rounds
public import proofs.«01_k».proof.Proof.Launch
public import Idealize.ShloMosaic.Lib.Layout

@[expose] public section

noncomputable section

namespace Cert.KernelIdeal.Top

open Idealize
open Idealize.ShloMosaic hiding ix1 ix2 ix3
open Idealize.ShloMosaic.ValueIdx
open Idealize.ShloMosaic.TcCoe
open Cert.KernelIdeal Cert.KernelIdeal.Gen Cert.Rank

section arrays
variable {F : FTy → Type} [FloatOps F] (m : (ℓ : Loc nD τ sig) → Buf (Elt F) ℓ) (ρ : Dev nD → PrngReg)

/-- The block a device stages is its argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result's array after the run is what the body stored. -/
theorem finalA_o (c : Dev nD) : finalA m ρ c (1 : Fin 2) = outAt m ρ c := by
  have hz : (fun a => (win0_1.index (0 : Fin 1)) a * main_v1.ty.shape.size a) = fun _ => 0 :=
    funext fun a => by fin_cases a <;> decide
  have h : (win0_1.blk (0 : Fin 1)).view.read (Elt F) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 hz (fun a => by fin_cases a <;> decide) _).symm.trans h

end arrays

/-- Four blocks of eight columns side by side: column `8 s + k` is column `k` of block `s`. -/
theorem beside_apply (f : Fin 4 → Vec Ideal S1x256x8 .bf16) (r : Fin 256) (s : Fin 4) (k : Fin 8) (l : Fin 32) (hl : l.val = 8 * s.val + k.val) :
    k0_pay18 (k0_pay17 (f 0)) (f 1) (f 2) (f 3) (ix2 r l) = f s (ix3 (0 : Fin 1) r k) := by
  have hp : k0_pay18 (k0_pay17 (f 0)) (f 1) (f 2) (f 3) (ix2 r l)
      = shapeCast S256x8 (f s) shapeCasts_S1x256x8_S256x8 (ix2 r k) := by
    unfold k0_pay18 k0_pay17
    refine concatenate_apply_piece (t := S256x32) 1
      [⟨S256x8, shapeCast S256x8 (f 0) shapeCasts_S1x256x8_S256x8⟩, ⟨S256x8, shapeCast S256x8 (f 1) shapeCasts_S1x256x8_S256x8⟩,
        ⟨S256x8, shapeCast S256x8 (f 2) shapeCasts_S1x256x8_S256x8⟩, ⟨S256x8, shapeCast S256x8 (f 3) shapeCasts_S1x256x8_S256x8⟩]
      concatenates_S256x8_S256x8_S256x8_S256x8_S256x32_d1 (ix2 r l) s.val s.isLt S256x8 _ (by fin_cases s <;> rfl) rfl (8 * s.val)
      (by fin_cases s <;> rfl) (ix2 r k) (fun b hb => ?_) ?_
    · match b with
      | ⟨0, _⟩ => rfl
      | ⟨1, _⟩ => exact absurd rfl hb
    · exact hl.symm
  rw [hp, shapeCast_1ab_ab_apply]

/-- Row `r` of the whole array. -/
abbrev whole (X : (⟨2, ![256, 4096]⟩ : Shape).Idx → EReal) (r : Fin 256) : Fin 4096 → EReal := fun q => X (ix2 r q)

section value
variable (m : (ℓ : Loc nD τ sig) → Buf (Elt Ideal) ℓ) (ρ : Dev nD → PrngReg)
variable (X : (⟨2, ![256, 4096]⟩ : Shape).Idx → EReal)
variable (hm : ∀ (c : Dev nD) (r : Fin 256) (q : Fin 1024) (p : Fin 4096), p.val = 1024 * (c.val % 4) + q.val →
  m ((c : Thread nD τ).loc main_arg0) (ix2 r q) = X (ix2 r p))

include hm in
/-- Member `s` of a group holds quarter `s` of the columns. -/
theorem quarter (c : Dev nD) (s : Fin 4) (r : Fin 256) (q : Fin 1024) (h : 1024 * s.val + q.val < 4096) :
    xstg m ρ (mate c s) (ix2 r q) = X (ix2 r ⟨1024 * s.val + q.val, h⟩) := by
  rw [xstg_eq]
  refine hm _ r q _ ?_
  rw [show (mate c s).val % 4 = s.val from by clear hm h; revert c s; decide +kernel]

include hm in
/-- A device's result holds, in row `r` and column `k`, the row's value of rank `k` over all the columns. -/
theorem out_rank (c : Dev nD) (r : Fin 256) (k : Fin 8) : outAt m ρ c (ix2 r k) = rank (whole X r) k.val := by
  show top8 _ _ _ _ (ix2 r k) = _
  rw [top8_apply]
  have hb := beside_apply (fun s => cand m ρ (mate c s)) r
  have hc : ∀ (s : Fin 4) (k : Fin 8), cand m ρ (mate c s) (ix3 (0 : Fin 1) r k)
      = rank (rowOf (n := 1024) (φ := .bf16) (xstg m ρ (mate c s)) r) k.val := fun s k => by
    unfold cand k0_pay16
    rw [shapeCast_ab_1ab_apply, loc8_apply]
  have hq := fun s q h => quarter m ρ X hm c s r q h
  refine merge (whole X r) (fun s : Fin 4 => rowOf (n := 1024) (φ := .bf16) (xstg m ρ (mate c s)) r) _ 8 ?_ ?_ ?_ ?_ k.val k.isLt
  · intro s q
    exact Or.inr ⟨⟨1024 * s.val + q.val, by omega⟩, (hq s q _).symm⟩
  · intro i
    refine ⟨⟨i.val / 1024, by omega⟩, ⟨i.val % 1024, by omega⟩, ?_⟩
    refine (hq _ _ (by show 1024 * (i.val / 1024) + i.val % 1024 < 4096; omega)).trans ?_
    exact congrArg (whole X r) (Fin.ext (Nat.div_add_mod _ _))
  · intro l
    refine ⟨⟨l.val / 8, by omega⟩, l.val % 8, ?_⟩
    have := (hb ⟨l.val / 8, by omega⟩ ⟨l.val % 8, by omega⟩ l (Nat.div_add_mod _ _).symm).trans (hc _ _)
    exact this.symm
  · intro s k hk
    exact ⟨⟨8 * s.val + k, by omega⟩, (hb s ⟨k, hk⟩ _ rfl).trans (hc _ _)⟩

end value

end Cert.KernelIdeal.Top
-- ==== Proof.Values.lean ====
/-
  The two value claims: against the reference where the row's leading values all differ, and against the reference whose
  equal values count once, everywhere.
-/
module

public import proofs.«01_k».proof.Proof.Heads
public import proofs.«01_k».proof.Proof.Merged
public import proofs.«01_k».proof.Defs

@[expose] public section

noncomputable section

namespace Cert.Top

open Idealize
open Idealize.ShloMosaic hiding ix1 ix2 ix3
open Idealize.ShloMosaic.ValueIdx
open Idealize.ShloMosaic.TcCoe Idealize.SL.Sem
open Cert.Rank Cert.Order

/-- The result both references share: in row `r` and column `k` the row's value of rank `k`. -/
def ranks (X : (Rows 4096).Idx → EReal) : (Rows 8).Idx → EReal := fun i => rank (fun q => X (ix2 (i 0) q)) (i 1).val

/-! ## The reference -/

section reference
open Cert.ReferenceIdeal Cert.ReferenceIdeal.Facts₀

/-- The reference's result. -/
def refOut (X : FVec Ideal (Rows 4096) .bf16) : FVec Ideal (Rows 8) .f32 :=
  taken gather_S256x4096_S256x8x1_S256x8_n_1_0_0_1_2_11_wf shapeCasts_S256x8_S256x8x1 reducesTo_S256x8x1_S256x8_d2 h_S_
    (broadcastInDim S256x8 ![] bcast_S_S256x8 (constantI S_ 32 0#32)) (broadcastInDim S256x8 ![] bcast_S_S256x8 (constantI S_ 32 4096#32))
    (broadcastInDim S256x8x1 ![] bcast_S_S256x8x1 (constantI S_ 32 0#32))
    (broadcastInDim S256x8x1 ![0, 1, 2] bcast_S1x1x1_S256x8x1_0_1_2 (broadcastInDim S1x1x1 ![2] bcast_S1_S1x1x1_2 (constantI S1 32 4095#32)))
    (broadcastInDim S256x8 ![] bcast_S_S256x8 (constant S_ .f32 0x7FC00000#32)) (extf .f32 X bitsLt_bf16_f32)
    (extractStridedSlice S256x8 ![0, 0] ((Host.sort2 S256x4096 1 comparator_f32_i32_d1 (Host.negf (extf .f32 X bitsLt_bf16_f32))
      (iotaInDim S256x4096 32 1)).2) slices_S256x4096_S256x8_0_0)

theorem refOut_apply (X : FVec Ideal (Rows 4096) .bf16) (r : Fin 256) (j : Fin 8) :
    refOut X (ix2 r j) = heads X r ⟨j.val, by omega⟩ :=
  eight_apply (comparator_f32_i32_d1 (F := Ideal)) order_reference _ _ _ _ _ _ _ _ _ _ (fun _ => rfl) (fun _ => rfl) (fun _ => rfl)
    (extf .f32 X bitsLt_bf16_f32) r j

end reference

/-! ## The mask -/

section mask
open Cert.On_untied Cert.On_untied.Facts

/-- The eight values the mask looks at. -/
def seen (X : FVec Ideal (Rows 4096) .bf16) : FVec Ideal (Rows 8) .f32 :=
  fn_take_along_axis (extf .f32 X bitsLt_bf16_f32)
    (extractStridedSlice S256x8 ![0, 0] (fn_argsort (Host.negf (extf .f32 X bitsLt_bf16_f32))) slices_S256x4096_S256x8_0_0)

theorem mask_eq (X : FVec Ideal (Rows 4096) .bf16) : Cert.On_untied.fn (F := Ideal) X = clear (seen X) := rfl

theorem seen_apply (X : FVec Ideal (Rows 4096) .bf16) (r : Fin 256) (j : Fin 8) : seen X (ix2 r j) = heads X r ⟨j.val, by omega⟩ :=
  eight_apply (comparator_f32_i32_d1 (F := Ideal)) order_untied gather_S256x4096_S256x8x1_S256x8_n_1_0_0_1_2_11_wf shapeCasts_S256x8_S256x8x1
    reducesTo_S256x8x1_S256x8_d2 h_S_ slices_S256x4096_S256x8_0_0
    (broadcastInDim S256x8 ![] bcast_S_S256x8 (constantI S_ 32 0#32)) (broadcastInDim S256x8 ![] bcast_S_S256x8 (constantI S_ 32 4096#32))
    (broadcastInDim S256x8x1 ![] bcast_S_S256x8x1 (constantI S_ 32 0#32))
    (broadcastInDim S256x8x1 ![0, 1, 2] bcast_S1x1x1_S256x8x1_0_1_2 (broadcastInDim S1x1x1 ![2] bcast_S1_S1x1x1_2 (constantI S1 32 4095#32)))
    (broadcastInDim S256x8 ![] bcast_S_S256x8 (constant S_ .f32 0x7FC00000#32)) (fun _ => rfl) (fun _ => rfl) (fun _ => rfl)
    (extf .f32 X bitsLt_bf16_f32) r j

/-- Where the mask is set, the reference's value is the value of its column's rank. -/
theorem masked (X : FVec Ideal (Rows 4096) .bf16) (r : Fin 256) (j : Fin 8)
    (h : Cert.On_untied.fn (F := Ideal) X (ix2 r j) = 1#1) : refOut X (ix2 r j) = ranks X (ix2 r j) := by
  rw [mask_eq] at h
  have hd := clear_apply (seen X) r j h
  rw [refOut_apply]
  refine Eq.trans (Eq.symm ?_) (rank_heads X r j.val)
  refine rank_sorted 4096 (heads X r) (heads_desc X r) j.val (by omega) fun i hi => ?_
  have := hd i hi
  rw [seen_apply, seen_apply] at this
  exact this

end mask

/-! ## The reference whose equal values count once -/

section distinct
open Cert.DistinctIdeal Cert.DistinctIdeal.Facts₀

/-- Every row's values, greatest first. -/
def sorted (X : FVec Ideal (Rows 4096) .bf16) : FVec Ideal (Rows 4096) .f32 :=
  taken gather_S256x4096_S256x4096x1_S256x4096_n_1_0_0_1_2_11_wf shapeCasts_S256x4096_S256x4096x1 reducesTo_S256x4096x1_S256x4096_d2 h_S_
    (broadcastInDim S256x4096 ![] bcast_S_S256x4096 (constantI S_ 32 0#32))
    (broadcastInDim S256x4096 ![] bcast_S_S256x4096 (constantI S_ 32 4096#32))
    (broadcastInDim S256x4096x1 ![] bcast_S_S256x4096x1 (constantI S_ 32 0#32))
    (broadcastInDim S256x4096x1 ![0, 1, 2] bcast_S1x1x1_S256x4096x1_0_1_2 (broadcastInDim S1x1x1 ![2] bcast_S1_S1x1x1_2 (constantI S1 32 4095#32)))
    (broadcastInDim S256x4096 ![] bcast_S_S256x4096 (constant S_ .f32 0x7FC00000#32)) (extf .f32 X bitsLt_bf16_f32)
    (Host.sort2 S256x4096 1 comparator_f32_i32_d1 (Host.negf (extf .f32 X bitsLt_bf16_f32)) (iotaInDim S256x4096 32 1)).2

theorem sorted_apply (X : FVec Ideal (Rows 4096) .bf16) (r : Fin 256) (j : Fin 4096) : sorted X (ix2 r j) = heads X r j :=
  all_apply (comparator_f32_i32_d1 (F := Ideal)) order_distinct _ _ _ _ _ _ _ _ _ (fun _ => rfl) (fun _ => rfl) (fun _ => rfl)
    (extf .f32 X bitsLt_bf16_f32) r j

/-- Which of a sorted row's values to keep: the first of every run of equal ones. -/
def keep (s : FVec Ideal (Rows 4096) .f32) : IVec (Rows 4096) 1 :=
  concatenate S256x4096 1 [⟨S256x1, broadcastInDim S256x1 ![] bcast_S_S256x1 (constantI S_ 1 1#1)⟩,
    ⟨S256x4095, cmpf .olt (extractStridedSlice S256x4095 ![0, 1] s slices_S256x4096_S256x4095_0_1)
      (extractStridedSlice S256x4095 ![0, 0] s slices_S256x4096_S256x4095_0_0)⟩] concatenates_S256x1_S256x4095_S256x4096_d1

/-- The sorted rows with minus infinity in the place of the values not kept. -/
def kept (s : FVec Ideal (Rows 4096) .f32) : FVec Ideal (Rows 4096) .f32 :=
  select (keep s) s (broadcastInDim S256x4096 ![] bcast_S_S256x4096 (id (constant S_ .f32 0xFF800000#32)))

/-- The second reference's result. -/
def distinctOut (s : FVec Ideal (Rows 4096) .f32) : FVec Ideal (Rows 8) .f32 :=
  taken gather_S256x4096_S256x8x1_S256x8_n_1_0_0_1_2_11_wf shapeCasts_S256x8_S256x8x1 reducesTo_S256x8x1_S256x8_d2 h_S_
    (broadcastInDim S256x8 ![] bcast_S_S256x8 (constantI S_ 32 0#32)) (broadcastInDim S256x8 ![] bcast_S_S256x8 (constantI S_ 32 4096#32))
    (broadcastInDim S256x8x1 ![] bcast_S_S256x8x1 (constantI S_ 32 0#32))
    (broadcastInDim S256x8x1 ![0, 1, 2] bcast_S1x1x1_S256x8x1_0_1_2 (broadcastInDim S1x1x1 ![2] bcast_S1_S1x1x1_2 (constantI S1 32 4095#32)))
    (broadcastInDim S256x8 ![] bcast_S_S256x8 (constant S_ .f32 0x7FC00000#32)) (kept s)
    (extractStridedSlice S256x8 ![0, 0] ((Host.sort2 S256x4096 1 comparator_f32_i32_d1 (Host.negf (kept s))
      (iotaInDim S256x4096 32 1)).2) slices_S256x4096_S256x8_0_0)

theorem kept_apply (s : FVec Ideal (Rows 4096) .f32) (r : Fin 256) (j : Fin 4096) :
    kept s (ix2 r j) = firsts (fun q => (s (ix2 r q) : EReal)) j := by
  have hz : Ideal.ofBits .f32 0xFF800000#32 = ⊥ := by simp [Ideal.ofBits, Ideal.ieee]
  unfold kept
  rw [select_apply]
  by_cases h : j.val = 0
  · have hk : keep s (ix2 r j) = 1#1 := by
      unfold keep
      rw [concatenate_pair_apply_left (s₁ := Rows 1) (s₂ := Rows 4095) 1 _ _ _ (ix2 r j) (by decide) (ix2 r (0 : Fin 1) : (Rows 1).Idx) (fun b => by
        match b with
        | ⟨0, _⟩ => rfl
        | ⟨1, _⟩ => exact h.symm)]
      rfl
    rw [hk, select_one]
    unfold firsts
    rw [dif_pos h]
  · have hj := j.isLt
    have hk : keep s (ix2 r j) = BitVec.ofBool (decide ((s (ix2 r j) : EReal) < s (ix2 r ⟨j.val - 1, by omega⟩))) := by
      unfold keep
      rw [concatenate_pair_apply_right (s₁ := Rows 1) (s₂ := Rows 4095) 1 _ _ _ (ix2 r j) (by decide) (by decide) (ix2 r (⟨j.val - 1, by omega⟩ : Fin 4095) : (Rows 4095).Idx)
        (fun b hb => by
          match b with
          | ⟨0, _⟩ => rfl
          | ⟨1, _⟩ => exact absurd rfl hb)
        (by exact Nat.sub_add_cancel (Nat.pos_of_ne_zero h))]
      rw [cmpf_apply,
        extractStridedSlice_apply ![0, 1] s _ _ (ix2 r j) (fun a => by
          match a with
          | ⟨0, _⟩ => exact (Nat.zero_add _).symm
          | ⟨1, _⟩ => exact (Nat.add_sub_cancel' (Nat.pos_of_ne_zero h)).symm),
        extractStridedSlice_apply ![0, 0] s _ _ (ix2 r ⟨j.val - 1, by omega⟩) (fun a => by
          match a with
          | ⟨0, _⟩ => exact (Nat.zero_add _).symm
          | ⟨1, _⟩ => exact (Nat.zero_add _).symm)]
      rfl
    rw [hk]
    unfold firsts
    rw [dif_neg h]
    by_cases hl : (s (ix2 r j) : EReal) < s (ix2 r ⟨j.val - 1, by omega⟩)
    · rw [if_pos hl, decide_eq_true hl]
      exact select_one _ _
    · rw [if_neg hl, decide_eq_false hl]
      exact (select_zero _ _).trans hz

theorem distinct_apply (X : FVec Ideal (Rows 4096) .bf16) (r : Fin 256) (j : Fin 8) :
    distinctOut (sorted X) (ix2 r j) = ranks X (ix2 r j) := by
  have h1 : distinctOut (sorted X) (ix2 r j) = heads (kept (sorted X)) r ⟨j.val, by omega⟩ :=
    eight_apply (comparator_f32_i32_d1 (F := Ideal)) order_distinct _ _ _ _ _ _ _ _ _ _ (fun _ => rfl) (fun _ => rfl) (fun _ => rfl)
      (kept (sorted X)) r j
  have hrow : (fun q => (sorted X (ix2 r q) : EReal)) = heads X r := funext fun q => sorted_apply X r q
  rw [h1]
  refine Eq.trans ?_ (rank_heads X r j.val)
  exact rank_sorted_firsts 4096 (heads X r) (heads (kept (sorted X)) r) (heads_desc X r) (heads_desc _ r)
    (place fun q => kept (sorted X) (ix2 r q)) (place_bijective _)
    (fun i => (kept_apply (sorted X) r _).trans (congrFun (congrArg firsts hrow) _)) j.val (by omega)

end distinct

/-! ## The claims -/

section claims

theorem kernel_ranks (m : (ℓ : Loc Cert.KernelIdeal.nD Cert.KernelIdeal.τ Cert.KernelIdeal.sig) → Buf (Elt Ideal) ℓ)
    (g : Dev Cert.KernelIdeal.nD → PrngReg) (X : (⟨2, ![256, 4096]⟩ : Shape).Idx → EReal)
    (hm : ∀ c : Dev Cert.KernelIdeal.nD, m ((c : Thread Cert.KernelIdeal.nD Cert.KernelIdeal.τ).loc Cert.KernelIdeal.main_arg0)
      = Layout.blockN ⟨2, ![256, 1024]⟩ ⟨2, ![256, 4096]⟩ (Layout.meshBlock [2, 2, 4] ![[], [2]] c) X) (c : Dev Cert.KernelIdeal.nD) :
    Cert.KernelIdeal.Top.finalA m g c (1 : Fin 2) = ranks X := by
  rw [Cert.KernelIdeal.Top.finalA_o]
  funext i
  obtain ⟨r, k, rfl⟩ : ∃ r k, i = ix2 r k := ⟨i 0, i 1, ValueIdx.eq_ix2 i⟩
  refine Cert.KernelIdeal.Top.out_rank m g X (fun c r q p hp => ?_) c r k
  rw [hm]
  show X (Layout.TilesN.idx _ _ _) = _
  refine congrArg X (funext fun a => Fin.ext ?_)
  rw [Layout.TilesN.idx_val]
  match a with
  | ⟨0, _⟩ =>
    show 0 * 256 + r.val = r.val
    omega
  | ⟨1, _⟩ =>
    show Layout.meshLin [2, 2, 4] c.val [2] * 1024 + q.val = p.val
    rw [show Layout.meshLin [2, 2, 4] c.val [2] = c.val % 4 from by clear hm hp; revert c; decide +kernel, hp]
    omega

theorem alg_untied : Cert.algebraic_KernelIdeal_ReferenceIdeal_on_untied := by
  intro m g m' g' _ hm
  refine ⟨ranks (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨fun i _ => ?_, ?_⟩) (Cert.KernelIdeal.Top.run_main (F := Ideal) m g)
    · exact congrFun ((h.1 c (1 : Fin 2)).trans (kernel_ranks m g _ hm c)) i
    · exact (h.1 c (0 : Fin 2)).trans (Cert.KernelIdeal.Top.finalA_x m g c)
  · refine (θ_run Cert.ReferenceIdeal.defs _ _).mono (fun _ h => ⟨fun i hi => ?_, (h 0).2⟩) (Cert.ReferenceIdeal.Value.run (F := Ideal) m' g')
    obtain ⟨r, k, rfl⟩ : ∃ r k, i = ix2 r k := ⟨i 0, i 1, ValueIdx.eq_ix2 i⟩
    have ht := (h 0).1.trans (show _ = refOut (m' (((0 : Dev Cert.ReferenceIdeal.nD).tc : Thread Cert.ReferenceIdeal.nD Cert.ReferenceIdeal.τ).loc Cert.ReferenceIdeal.main_arg0)) from rfl)
    exact (congrFun ht (ix2 r k)).trans (masked _ r k hi)

theorem distinct_term (m' : (ℓ : Loc Cert.DistinctIdeal.nD Cert.DistinctIdeal.τ Cert.DistinctIdeal.sig) → Buf (Elt Ideal) ℓ) (c : Dev Cert.DistinctIdeal.nD) :
    Cert.DistinctIdeal.Value.res_main_v13 m' c
      = distinctOut (sorted (m' ((c.tc : Thread Cert.DistinctIdeal.nD Cert.DistinctIdeal.τ).loc Cert.DistinctIdeal.main_arg0))) := rfl

theorem alg_distinct : Cert.algebraic_KernelIdeal_DistinctIdeal := by
  intro m g m' g' _ hm
  refine ⟨ranks (m' (((0 : Dev Cert.DistinctIdeal.nD).tc : Thread Cert.DistinctIdeal.nD Cert.DistinctIdeal.τ).loc Cert.DistinctIdeal.main_arg0)), ?_, ?_⟩
  · refine (θ_run Cert.KernelIdeal.defs _ _).mono (fun _ h c => ⟨?_, ?_⟩) (Cert.KernelIdeal.Top.run_main (F := Ideal) m g)
    · exact (h.1 c (1 : Fin 2)).trans (kernel_ranks m g _ hm c)
    · exact (h.1 c (0 : Fin 2)).trans (Cert.KernelIdeal.Top.finalA_x m g c)
  · refine (θ_run Cert.DistinctIdeal.defs _ _).mono (fun _ h => ⟨?_, (h 0).2⟩) (Cert.DistinctIdeal.Value.run (F := Ideal) m' g')
    refine ((h 0).1.trans (distinct_term m' 0)).trans (funext fun i => ?_)
    obtain ⟨r, k, rfl⟩ : ∃ r k, i = ix2 r k := ⟨i 0, i 1, ValueIdx.eq_ix2 i⟩
    exact distinct_apply _ r k

end claims

end Cert.Top
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.DistinctIdeal
public import proofs.«01_k».proof.Proof.Gen.DistinctIdeal.Run
public import proofs.«01_k».proof.Proof.Gen.On_untied
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.DistinctIdeal.Gen.facts, Cert.On_untied.Gen.facts,
  Cert.Top.frame_kernel, Cert.Top.frame_ideal, Cert.Top.frame_reference, Cert.Top.frame_distinct, trivial,
  Cert.Top.alg_untied, Cert.Top.alg_distinct⟩

end Cert.Proof

end
